-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnMidKernel (m : (ℓ : Loc Cert.FfnMidKernel.nD Cert.FfnMidKernel.τ Cert.FfnMidKernel.sig) → Buf (Elt Bits) ℓ) : Prop :=
  True

def Pre_FfnMidKernelIdeal (m : (ℓ : Loc Cert.FfnMidKernelIdeal.nD Cert.FfnMidKernelIdeal.τ Cert.FfnMidKernelIdeal.sig) → Buf (Elt Ideal) ℓ) : Prop :=
  True

def Pre_FfnMidReferenceIdeal (m : (ℓ : Loc Cert.FfnMidReferenceIdeal.nD Cert.FfnMidReferenceIdeal.τ Cert.FfnMidReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OddProjKernel (m : (ℓ : Loc Cert.OddProjKernel.nD Cert.OddProjKernel.τ Cert.OddProjKernel.sig) → Buf (Elt Bits) ℓ) : Prop :=
  True

def Pre_OddProjKernelIdeal (m : (ℓ : Loc Cert.OddProjKernelIdeal.nD Cert.OddProjKernelIdeal.τ Cert.OddProjKernelIdeal.sig) → Buf (Elt Ideal) ℓ) : Prop :=
  True

def Pre_OddProjReferenceIdeal (m : (ℓ : Loc Cert.OddProjReferenceIdeal.nD Cert.OddProjReferenceIdeal.τ Cert.OddProjReferenceIdeal.sig) → Buf (Elt Ideal) ℓ) : Prop :=
  True

def Pre_OddInKernel (m : (ℓ : Loc Cert.OddInKernel.nD Cert.OddInKernel.τ Cert.OddInKernel.sig) → Buf (Elt Bits) ℓ) : Prop :=
  True

def Pre_OddInKernelIdeal (m : (ℓ : Loc Cert.OddInKernelIdeal.nD Cert.OddInKernelIdeal.τ Cert.OddInKernelIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnMidKernel [hFfnMidKernel : Cert.FfnMidKernel.Facts] : Prop :=
  ∀ (m : (ℓ : Loc Cert.FfnMidKernel.nD Cert.FfnMidKernel.τ Cert.FfnMidKernel.sig) → Buf (Elt Bits) ℓ) (g : Dev Cert.FfnMidKernel.nD → PrngReg), Pre_FfnMidKernel m →
    θ_run (Cert.FfnMidKernel.defs (F := Bits)) (onTc (τ := Cert.FfnMidKernel.τ) (Cert.FfnMidKernel.main (F := Bits))) ⟨m, fun _ => 0, g⟩ (fun r => (∀ c : Dev Cert.FfnMidKernel.nD,
      r.2.mem ((c.tc : Thread Cert.FfnMidKernel.nD Cert.FfnMidKernel.τ).loc Cert.FfnMidKernel.main_arg0) = m ((c.tc : Thread Cert.FfnMidKernel.nD Cert.FfnMidKernel.τ).loc Cert.FfnMidKernel.main_arg0)
      ∧ r.2.mem ((c.tc : Thread Cert.FfnMidKernel.nD Cert.FfnMidKernel.τ).loc Cert.FfnMidKernel.main_arg1) = m ((c.tc : Thread Cert.FfnMidKernel.nD Cert.FfnMidKernel.τ).loc Cert.FfnMidKernel.main_arg1)
      ∧ r.2.mem ((c.tc : Thread Cert.FfnMidKernel.nD Cert.FfnMidKernel.τ).loc Cert.FfnMidKernel.main_arg2) = m ((c.tc : Thread Cert.FfnMidKernel.nD Cert.FfnMidKernel.τ).loc Cert.FfnMidKernel.main_arg2)
      ∧ r.2.mem ((c.tc : Thread Cert.FfnMidKernel.nD Cert.FfnMidKernel.τ).loc Cert.FfnMidKernel.main_arg3) = m ((c.tc : Thread Cert.FfnMidKernel.nD Cert.FfnMidKernel.τ).loc Cert.FfnMidKernel.main_arg3)
      ∧ r.2.mem ((c.tc : Thread Cert.FfnMidKernel.nD Cert.FfnMidKernel.τ).loc Cert.FfnMidKernel.main_arg4) = m ((c.tc : Thread Cert.FfnMidKernel.nD Cert.FfnMidKernel.τ).loc Cert.FfnMidKernel.main_arg4))
      ∧ r.2.sem = fun _ => 0)

def quiescent_FfnMidKernelIdeal [hFfnMidKernelIdeal : Cert.FfnMidKernelIdeal.Facts] : Prop :=
  ∀ (m : (ℓ : Loc Cert.FfnMidKernelIdeal.nD Cert.FfnMidKernelIdeal.τ Cert.FfnMidKernelIdeal.sig) → Buf (Elt Ideal) ℓ) (g : Dev Cert.FfnMidKernelIdeal.nD → PrngReg), Pre_FfnMidKernelIdeal m →
    θ_run (Cert.FfnMidKernelIdeal.defs (F := Ideal)) (onTc (τ := Cert.FfnMidKernelIdeal.τ) (Cert.FfnMidKernelIdeal.main (F := Ideal))) ⟨m, fun _ => 0, g⟩ (fun r => (∀ c : Dev Cert.FfnMidKernelIdeal.nD,
      r.2.mem ((c.tc : Thread Cert.FfnMidKernelIdeal.nD Cert.FfnMidKernelIdeal.τ).loc Cert.FfnMidKernelIdeal.main_arg0) = m ((c.tc : Thread Cert.FfnMidKernelIdeal.nD Cert.FfnMidKernelIdeal.τ).loc Cert.FfnMidKernelIdeal.main_arg0)
      ∧ r.2.mem ((c.tc : Thread Cert.FfnMidKernelIdeal.nD Cert.FfnMidKernelIdeal.τ).loc Cert.FfnMidKernelIdeal.main_arg1) = m ((c.tc : Thread Cert.FfnMidKernelIdeal.nD Cert.FfnMidKernelIdeal.τ).loc Cert.FfnMidKernelIdeal.main_arg1)
      ∧ r.2.mem ((c.tc : Thread Cert.FfnMidKernelIdeal.nD Cert.FfnMidKernelIdeal.τ).loc Cert.FfnMidKernelIdeal.main_arg2) = m ((c.tc : Thread Cert.FfnMidKernelIdeal.nD Cert.FfnMidKernelIdeal.τ).loc Cert.FfnMidKernelIdeal.main_arg2)
      ∧ r.2.mem ((c.tc : Thread Cert.FfnMidKernelIdeal.nD Cert.FfnMidKernelIdeal.τ).loc Cert.FfnMidKernelIdeal.main_arg3) = m ((c.tc : Thread Cert.FfnMidKernelIdeal.nD Cert.FfnMidKernelIdeal.τ).loc Cert.FfnMidKernelIdeal.main_arg3)
      ∧ r.2.mem ((c.tc : Thread Cert.FfnMidKernelIdeal.nD Cert.FfnMidKernelIdeal.τ).loc Cert.FfnMidKernelIdeal.main_arg4) = m ((c.tc : Thread Cert.FfnMidKernelIdeal.nD Cert.FfnMidKernelIdeal.τ).loc Cert.FfnMidKernelIdeal.main_arg4))
      ∧ r.2.sem = fun _ => 0)

def quiescent_FfnMidReferenceIdeal [hFfnMidReferenceIdeal : Cert.FfnMidReferenceIdeal.Facts] : Prop :=
  ∀ (m : (ℓ : Loc Cert.FfnMidReferenceIdeal.nD Cert.FfnMidReferenceIdeal.τ Cert.FfnMidReferenceIdeal.sig) → Buf (Elt Ideal) ℓ) (g : Dev Cert.FfnMidReferenceIdeal.nD → PrngReg), Pre_FfnMidReferenceIdeal m →
    θ_run (Cert.FfnMidReferenceIdeal.defs (F := Ideal)) (onTc (τ := Cert.FfnMidReferenceIdeal.τ) (Cert.FfnMidReferenceIdeal.main (F := Ideal))) ⟨m, fun _ => 0, g⟩ (fun r => (∀ c : Dev Cert.FfnMidReferenceIdeal.nD,
      r.2.mem ((c.tc : Thread Cert.FfnMidReferenceIdeal.nD Cert.FfnMidReferenceIdeal.τ).loc Cert.FfnMidReferenceIdeal.main_arg0) = m ((c.tc : Thread Cert.FfnMidReferenceIdeal.nD Cert.FfnMidReferenceIdeal.τ).loc Cert.FfnMidReferenceIdeal.main_arg0)
      ∧ r.2.mem ((c.tc : Thread Cert.FfnMidReferenceIdeal.nD Cert.FfnMidReferenceIdeal.τ).loc Cert.FfnMidReferenceIdeal.main_arg1) = m ((c.tc : Thread Cert.FfnMidReferenceIdeal.nD Cert.FfnMidReferenceIdeal.τ).loc Cert.FfnMidReferenceIdeal.main_arg1)
      ∧ r.2.mem ((c.tc : Thread Cert.FfnMidReferenceIdeal.nD Cert.FfnMidReferenceIdeal.τ).loc Cert.FfnMidReferenceIdeal.main_arg2) = m ((c.tc : Thread Cert.FfnMidReferenceIdeal.nD Cert.FfnMidReferenceIdeal.τ).loc Cert.FfnMidReferenceIdeal.main_arg2)
      ∧ r.2.mem ((c.tc : Thread Cert.FfnMidReferenceIdeal.nD Cert.FfnMidReferenceIdeal.τ).loc Cert.FfnMidReferenceIdeal.main_arg3) = m ((c.tc : Thread Cert.FfnMidReferenceIdeal.nD Cert.FfnMidReferenceIdeal.τ).loc Cert.FfnMidReferenceIdeal.main_arg3)
      ∧ r.2.mem ((c.tc : Thread Cert.FfnMidReferenceIdeal.nD Cert.FfnMidReferenceIdeal.τ).loc Cert.FfnMidReferenceIdeal.main_arg4) = m ((c.tc : Thread Cert.FfnMidReferenceIdeal.nD Cert.FfnMidReferenceIdeal.τ).loc Cert.FfnMidReferenceIdeal.main_arg4))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_OddProjKernel [hOddProjKernel : Cert.OddProjKernel.Facts] : Prop :=
  ∀ (m : (ℓ : Loc Cert.OddProjKernel.nD Cert.OddProjKernel.τ Cert.OddProjKernel.sig) → Buf (Elt Bits) ℓ) (g : Dev Cert.OddProjKernel.nD → PrngReg), Pre_OddProjKernel m →
    θ_run (Cert.OddProjKernel.defs (F := Bits)) (onTc (τ := Cert.OddProjKernel.τ) (Cert.OddProjKernel.main (F := Bits))) ⟨m, fun _ => 0, g⟩ (fun r => (∀ c : Dev Cert.OddProjKernel.nD,
      r.2.mem ((c.tc : Thread Cert.OddProjKernel.nD Cert.OddProjKernel.τ).loc Cert.OddProjKernel.main_arg0) = m ((c.tc : Thread Cert.OddProjKernel.nD Cert.OddProjKernel.τ).loc Cert.OddProjKernel.main_arg0)
      ∧ r.2.mem ((c.tc : Thread Cert.OddProjKernel.nD Cert.OddProjKernel.τ).loc Cert.OddProjKernel.main_arg1) = m ((c.tc : Thread Cert.OddProjKernel.nD Cert.OddProjKernel.τ).loc Cert.OddProjKernel.main_arg1)
      ∧ r.2.mem ((c.tc : Thread Cert.OddProjKernel.nD Cert.OddProjKernel.τ).loc Cert.OddProjKernel.main_arg2) = m ((c.tc : Thread Cert.OddProjKernel.nD Cert.OddProjKernel.τ).loc Cert.OddProjKernel.main_arg2))
      ∧ r.2.sem = fun _ => 0)

def quiescent_OddProjKernelIdeal [hOddProjKernelIdeal : Cert.OddProjKernelIdeal.Facts] : Prop :=
  ∀ (m : (ℓ : Loc Cert.OddProjKernelIdeal.nD Cert.OddProjKernelIdeal.τ Cert.OddProjKernelIdeal.sig) → Buf (Elt Ideal) ℓ) (g : Dev Cert.OddProjKernelIdeal.nD → PrngReg), Pre_OddProjKernelIdeal m →
    θ_run (Cert.OddProjKernelIdeal.defs (F := Ideal)) (onTc (τ := Cert.OddProjKernelIdeal.τ) (Cert.OddProjKernelIdeal.main (F := Ideal))) ⟨m, fun _ => 0, g⟩ (fun r => (∀ c : Dev Cert.OddProjKernelIdeal.nD,
      r.2.mem ((c.tc : Thread Cert.OddProjKernelIdeal.nD Cert.OddProjKernelIdeal.τ).loc Cert.OddProjKernelIdeal.main_arg0) = m ((c.tc : Thread Cert.OddProjKernelIdeal.nD Cert.OddProjKernelIdeal.τ).loc Cert.OddProjKernelIdeal.main_arg0)
      ∧ r.2.mem ((c.tc : Thread Cert.OddProjKernelIdeal.nD Cert.OddProjKernelIdeal.τ).loc Cert.OddProjKernelIdeal.main_arg1) = m ((c.tc : Thread Cert.OddProjKernelIdeal.nD Cert.OddProjKernelIdeal.τ).loc Cert.OddProjKernelIdeal.main_arg1)
      ∧ r.2.mem ((c.tc : Thread Cert.OddProjKernelIdeal.nD Cert.OddProjKernelIdeal.τ).loc Cert.OddProjKernelIdeal.main_arg2) = m ((c.tc : Thread Cert.OddProjKernelIdeal.nD Cert.OddProjKernelIdeal.τ).loc Cert.OddProjKernelIdeal.main_arg2))
      ∧ r.2.sem = fun _ => 0)

def quiescent_OddProjReferenceIdeal [hOddProjReferenceIdeal : Cert.OddProjReferenceIdeal.Facts] : Prop :=
  ∀ (m : (ℓ : Loc Cert.OddProjReferenceIdeal.nD Cert.OddProjReferenceIdeal.τ Cert.OddProjReferenceIdeal.sig) → Buf (Elt Ideal) ℓ) (g : Dev Cert.OddProjReferenceIdeal.nD → PrngReg), Pre_OddProjReferenceIdeal m →
    θ_run (Cert.OddProjReferenceIdeal.defs (F := Ideal)) (onTc (τ := Cert.OddProjReferenceIdeal.τ) (Cert.OddProjReferenceIdeal.main (F := Ideal))) ⟨m, fun _ => 0, g⟩ (fun r => (∀ c : Dev Cert.OddProjReferenceIdeal.nD,
      r.2.mem ((c.tc : Thread Cert.OddProjReferenceIdeal.nD Cert.OddProjReferenceIdeal.τ).loc Cert.OddProjReferenceIdeal.main_arg0) = m ((c.tc : Thread Cert.OddProjReferenceIdeal.nD Cert.OddProjReferenceIdeal.τ).loc Cert.OddProjReferenceIdeal.main_arg0)
      ∧ r.2.mem ((c.tc : Thread Cert.OddProjReferenceIdeal.nD Cert.OddProjReferenceIdeal.τ).loc Cert.OddProjReferenceIdeal.main_arg1) = m ((c.tc : Thread Cert.OddProjReferenceIdeal.nD Cert.OddProjReferenceIdeal.τ).loc Cert.OddProjReferenceIdeal.main_arg1)
      ∧ r.2.mem ((c.tc : Thread Cert.OddProjReferenceIdeal.nD Cert.OddProjReferenceIdeal.τ).loc Cert.OddProjReferenceIdeal.main_arg2) = m ((c.tc : Thread Cert.OddProjReferenceIdeal.nD Cert.OddProjReferenceIdeal.τ).loc Cert.OddProjReferenceIdeal.main_arg2))
      ∧ r.2.sem = fun _ => 0)

def quiescent_OddInKernel [hOddInKernel : Cert.OddInKernel.Facts] : Prop :=
  ∀ (m : (ℓ : Loc Cert.OddInKernel.nD Cert.OddInKernel.τ Cert.OddInKernel.sig) → Buf (Elt Bits) ℓ) (g : Dev Cert.OddInKernel.nD → PrngReg), Pre_OddInKernel m →
    θ_run (Cert.OddInKernel.defs (F := Bits)) (onTc (τ := Cert.OddInKernel.τ) (Cert.OddInKernel.main (F := Bits))) ⟨m, fun _ => 0, g⟩ (fun r => (∀ c : Dev Cert.OddInKernel.nD,
      r.2.mem ((c.tc : Thread Cert.OddInKernel.nD Cert.OddInKernel.τ).loc Cert.OddInKernel.main_arg0) = m ((c.tc : Thread Cert.OddInKernel.nD Cert.OddInKernel.τ).loc Cert.OddInKernel.main_arg0)
      ∧ r.2.mem ((c.tc : Thread Cert.OddInKernel.nD Cert.OddInKernel.τ).loc Cert.OddInKernel.main_arg1) = m ((c.tc : Thread Cert.OddInKernel.nD Cert.OddInKernel.τ).loc Cert.OddInKernel.main_arg1)
      ∧ r.2.mem ((c.tc : Thread Cert.OddInKernel.nD Cert.OddInKernel.τ).loc Cert.OddInKernel.main_arg2) = m ((c.tc : Thread Cert.OddInKernel.nD Cert.OddInKernel.τ).loc Cert.OddInKernel.main_arg2))
      ∧ r.2.sem = fun _ => 0)

def quiescent_OddInKernelIdeal [hOddInKernelIdeal : Cert.OddInKernelIdeal.Facts] : Prop :=
  ∀ (m : (ℓ : Loc Cert.OddInKernelIdeal.nD Cert.OddInKernelIdeal.τ Cert.OddInKernelIdeal.sig) → Buf (Elt Ideal) ℓ) (g : Dev Cert.OddInKernelIdeal.nD → PrngReg), Pre_OddInKernelIdeal m →
    θ_run (Cert.OddInKernelIdeal.defs (F := Ideal)) (onTc (τ := Cert.OddInKernelIdeal.τ) (Cert.OddInKernelIdeal.main (F := Ideal))) ⟨m, fun _ => 0, g⟩ (fun r => (∀ c : Dev Cert.OddInKernelIdeal.nD,
      r.2.mem ((c.tc : Thread Cert.OddInKernelIdeal.nD Cert.OddInKernelIdeal.τ).loc Cert.OddInKernelIdeal.main_arg0) = m ((c.tc : Thread Cert.OddInKernelIdeal.nD Cert.OddInKernelIdeal.τ).loc Cert.OddInKernelIdeal.main_arg0)
      ∧ r.2.mem ((c.tc : Thread Cert.OddInKernelIdeal.nD Cert.OddInKernelIdeal.τ).loc Cert.OddInKernelIdeal.main_arg1) = m ((c.tc : Thread Cert.OddInKernelIdeal.nD Cert.OddInKernelIdeal.τ).loc Cert.OddInKernelIdeal.main_arg1)
      ∧ r.2.mem ((c.tc : Thread Cert.OddInKernelIdeal.nD Cert.OddInKernelIdeal.τ).loc Cert.OddInKernelIdeal.main_arg2) = m ((c.tc : Thread Cert.OddInKernelIdeal.nD Cert.OddInKernelIdeal.τ).loc Cert.OddInKernelIdeal.main_arg2))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v4) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnMidKernel_FfnMidKernelIdeal : Prop :=
  True

def algebraic_FfnMidKernelIdeal_FfnMidReferenceIdeal [hFfnMidKernelIdeal : Cert.FfnMidKernelIdeal.Facts] [hFfnMidReferenceIdeal : Cert.FfnMidReferenceIdeal.Facts] : Prop :=
  ∀ (m : (ℓ : Loc Cert.FfnMidKernelIdeal.nD Cert.FfnMidKernelIdeal.τ Cert.FfnMidKernelIdeal.sig) → Buf (Elt Ideal) ℓ) (g : Dev Cert.FfnMidKernelIdeal.nD → PrngReg)
    (m' : (ℓ : Loc Cert.FfnMidReferenceIdeal.nD Cert.FfnMidReferenceIdeal.τ Cert.FfnMidReferenceIdeal.sig) → Buf (Elt Ideal) ℓ) (g' : Dev Cert.FfnMidReferenceIdeal.nD → PrngReg), Pre_FfnMidKernelIdeal m →
    (∀ c : Dev Cert.FfnMidKernelIdeal.nD,
      m' ((c.tc : Thread Cert.FfnMidReferenceIdeal.nD Cert.FfnMidReferenceIdeal.τ).loc Cert.FfnMidReferenceIdeal.main_arg0) = m ((c.tc : Thread Cert.FfnMidKernelIdeal.nD Cert.FfnMidKernelIdeal.τ).loc Cert.FfnMidKernelIdeal.main_arg0)
      ∧ m' ((c.tc : Thread Cert.FfnMidReferenceIdeal.nD Cert.FfnMidReferenceIdeal.τ).loc Cert.FfnMidReferenceIdeal.main_arg1) = m ((c.tc : Thread Cert.FfnMidKernelIdeal.nD Cert.FfnMidKernelIdeal.τ).loc Cert.FfnMidKernelIdeal.main_arg1)
      ∧ m' ((c.tc : Thread Cert.FfnMidReferenceIdeal.nD Cert.FfnMidReferenceIdeal.τ).loc Cert.FfnMidReferenceIdeal.main_arg2) = m ((c.tc : Thread Cert.FfnMidKernelIdeal.nD Cert.FfnMidKernelIdeal.τ).loc Cert.FfnMidKernelIdeal.main_arg2)
      ∧ m' ((c.tc : Thread Cert.FfnMidReferenceIdeal.nD Cert.FfnMidReferenceIdeal.τ).loc Cert.FfnMidReferenceIdeal.main_arg3) = m ((c.tc : Thread Cert.FfnMidKernelIdeal.nD Cert.FfnMidKernelIdeal.τ).loc Cert.FfnMidKernelIdeal.main_arg3)
      ∧ m' ((c.tc : Thread Cert.FfnMidReferenceIdeal.nD Cert.FfnMidReferenceIdeal.τ).loc Cert.FfnMidReferenceIdeal.main_arg4) = m ((c.tc : Thread Cert.FfnMidKernelIdeal.nD Cert.FfnMidKernelIdeal.τ).loc Cert.FfnMidKernelIdeal.main_arg4)) →
    ∃ (v0 : (c : Dev Cert.FfnMidKernelIdeal.nD) → Buf (Elt Ideal) ((c.tc : Thread Cert.FfnMidKernelIdeal.nD Cert.FfnMidKernelIdeal.τ).loc Cert.FfnMidKernelIdeal.main_v4)),
      θ_run (Cert.FfnMidKernelIdeal.defs (F := Ideal)) (onTc (τ := Cert.FfnMidKernelIdeal.τ) (Cert.FfnMidKernelIdeal.main (F := Ideal))) ⟨m, fun _ => 0, g⟩ (fun r => ∀ c : Dev Cert.FfnMidKernelIdeal.nD,
          r.2.mem ((c.tc : Thread Cert.FfnMidKernelIdeal.nD Cert.FfnMidKernelIdeal.τ).loc Cert.FfnMidKernelIdeal.main_v4) = v0 c
          ∧ r.2.mem ((c.tc : Thread Cert.FfnMidKernelIdeal.nD Cert.FfnMidKernelIdeal.τ).loc Cert.FfnMidKernelIdeal.main_arg0) = m ((c.tc : Thread Cert.FfnMidKernelIdeal.nD Cert.FfnMidKernelIdeal.τ).loc Cert.FfnMidKernelIdeal.main_arg0)
          ∧ r.2.mem ((c.tc : Thread Cert.FfnMidKernelIdeal.nD Cert.FfnMidKernelIdeal.τ).loc Cert.FfnMidKernelIdeal.main_arg1) = m ((c.tc : Thread Cert.FfnMidKernelIdeal.nD Cert.FfnMidKernelIdeal.τ).loc Cert.FfnMidKernelIdeal.main_arg1)
          ∧ r.2.mem ((c.tc : Thread Cert.FfnMidKernelIdeal.nD Cert.FfnMidKernelIdeal.τ).loc Cert.FfnMidKernelIdeal.main_arg2) = m ((c.tc : Thread Cert.FfnMidKernelIdeal.nD Cert.FfnMidKernelIdeal.τ).loc Cert.FfnMidKernelIdeal.main_arg2)
          ∧ r.2.mem ((c.tc : Thread Cert.FfnMidKernelIdeal.nD Cert.FfnMidKernelIdeal.τ).loc Cert.FfnMidKernelIdeal.main_arg3) = m ((c.tc : Thread Cert.FfnMidKernelIdeal.nD Cert.FfnMidKernelIdeal.τ).loc Cert.FfnMidKernelIdeal.main_arg3)
          ∧ r.2.mem ((c.tc : Thread Cert.FfnMidKernelIdeal.nD Cert.FfnMidKernelIdeal.τ).loc Cert.FfnMidKernelIdeal.main_arg4) = m ((c.tc : Thread Cert.FfnMidKernelIdeal.nD Cert.FfnMidKernelIdeal.τ).loc Cert.FfnMidKernelIdeal.main_arg4))
      ∧ θ_run (Cert.FfnMidReferenceIdeal.defs (F := Ideal)) (onTc (τ := Cert.FfnMidReferenceIdeal.τ) (Cert.FfnMidReferenceIdeal.main (F := Ideal))) ⟨m', fun _ => 0, g'⟩ (fun r => ∀ c : Dev Cert.FfnMidReferenceIdeal.nD,
          r.2.mem ((c.tc : Thread Cert.FfnMidReferenceIdeal.nD Cert.FfnMidReferenceIdeal.τ).loc Cert.FfnMidReferenceIdeal.main_v17) = v0 c
          ∧ r.2.mem ((c.tc : Thread Cert.FfnMidReferenceIdeal.nD Cert.FfnMidReferenceIdeal.τ).loc Cert.FfnMidReferenceIdeal.main_arg0) = m' ((c.tc : Thread Cert.FfnMidReferenceIdeal.nD Cert.FfnMidReferenceIdeal.τ).loc Cert.FfnMidReferenceIdeal.main_arg0)
          ∧ r.2.mem ((c.tc : Thread Cert.FfnMidReferenceIdeal.nD Cert.FfnMidReferenceIdeal.τ).loc Cert.FfnMidReferenceIdeal.main_arg1) = m' ((c.tc : Thread Cert.FfnMidReferenceIdeal.nD Cert.FfnMidReferenceIdeal.τ).loc Cert.FfnMidReferenceIdeal.main_arg1)
          ∧ r.2.mem ((c.tc : Thread Cert.FfnMidReferenceIdeal.nD Cert.FfnMidReferenceIdeal.τ).loc Cert.FfnMidReferenceIdeal.main_arg2) = m' ((c.tc : Thread Cert.FfnMidReferenceIdeal.nD Cert.FfnMidReferenceIdeal.τ).loc Cert.FfnMidReferenceIdeal.main_arg2)
          ∧ r.2.mem ((c.tc : Thread Cert.FfnMidReferenceIdeal.nD Cert.FfnMidReferenceIdeal.τ).loc Cert.FfnMidReferenceIdeal.main_arg3) = m' ((c.tc : Thread Cert.FfnMidReferenceIdeal.nD Cert.FfnMidReferenceIdeal.τ).loc Cert.FfnMidReferenceIdeal.main_arg3)
          ∧ r.2.mem ((c.tc : Thread Cert.FfnMidReferenceIdeal.nD Cert.FfnMidReferenceIdeal.τ).loc Cert.FfnMidReferenceIdeal.main_arg4) = m' ((c.tc : Thread Cert.FfnMidReferenceIdeal.nD Cert.FfnMidReferenceIdeal.τ).loc Cert.FfnMidReferenceIdeal.main_arg4))

def preserves_SguKernel_SguKernelIdeal : Prop :=
  True

def algebraic_SguKernelIdeal_SguReferenceIdeal [hSguKernelIdeal : Cert.SguKernelIdeal.Facts] [hSguReferenceIdeal : Cert.SguReferenceIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)) →
    ∃ (v0 : (c : Dev Cert.SguKernelIdeal.nD) → Buf (Elt Ideal) ((c.tc : Thread Cert.SguKernelIdeal.nD Cert.SguKernelIdeal.τ).loc Cert.SguKernelIdeal.main_v1)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v1) = v0 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v53) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v6_0)) (v1 : (c : Dev Cert.InKernelIdeal.nD) → Buf (Elt Ideal) ((c.tc : Thread Cert.InKernelIdeal.nD Cert.InKernelIdeal.τ).loc Cert.InKernelIdeal.main_v6_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v6_0) = v0 c
          ∧ r.2.mem ((c.tc : Thread Cert.InKernelIdeal.nD Cert.InKernelIdeal.τ).loc Cert.InKernelIdeal.main_v6_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v14) = v0 c
          ∧ r.2.mem ((c.tc : Thread Cert.InReferenceIdeal.nD Cert.InReferenceIdeal.τ).loc Cert.InReferenceIdeal.main_v16) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_OddProjKernel_OddProjKernelIdeal : Prop :=
  True

def algebraic_OddProjKernelIdeal_OddProjReferenceIdeal [hOddProjKernelIdeal : Cert.OddProjKernelIdeal.Facts] [hOddProjReferenceIdeal : Cert.OddProjReferenceIdeal.Facts] : Prop :=
  ∀ (m : (ℓ : Loc Cert.OddProjKernelIdeal.nD Cert.OddProjKernelIdeal.τ Cert.OddProjKernelIdeal.sig) → Buf (Elt Ideal) ℓ) (g : Dev Cert.OddProjKernelIdeal.nD → PrngReg)
    (m' : (ℓ : Loc Cert.OddProjReferenceIdeal.nD Cert.OddProjReferenceIdeal.τ Cert.OddProjReferenceIdeal.sig) → Buf (Elt Ideal) ℓ) (g' : Dev Cert.OddProjReferenceIdeal.nD → PrngReg), Pre_OddProjKernelIdeal m →
    (∀ c : Dev Cert.OddProjKernelIdeal.nD,
      m' ((c.tc : Thread Cert.OddProjReferenceIdeal.nD Cert.OddProjReferenceIdeal.τ).loc Cert.OddProjReferenceIdeal.main_arg0) = m ((c.tc : Thread Cert.OddProjKernelIdeal.nD Cert.OddProjKernelIdeal.τ).loc Cert.OddProjKernelIdeal.main_arg0)
      ∧ m' ((c.tc : Thread Cert.OddProjReferenceIdeal.nD Cert.OddProjReferenceIdeal.τ).loc Cert.OddProjReferenceIdeal.main_arg1) = m ((c.tc : Thread Cert.OddProjKernelIdeal.nD Cert.OddProjKernelIdeal.τ).loc Cert.OddProjKernelIdeal.main_arg1)
      ∧ m' ((c.tc : Thread Cert.OddProjReferenceIdeal.nD Cert.OddProjReferenceIdeal.τ).loc Cert.OddProjReferenceIdeal.main_arg2) = m ((c.tc : Thread Cert.OddProjKernelIdeal.nD Cert.OddProjKernelIdeal.τ).loc Cert.OddProjKernelIdeal.main_arg2)) →
    ∃ (v0 : (c : Dev Cert.OddProjKernelIdeal.nD) → Buf (Elt Ideal) ((c.tc : Thread Cert.OddProjKernelIdeal.nD Cert.OddProjKernelIdeal.τ).loc Cert.OddProjKernelIdeal.main_v1)),
      θ_run (Cert.OddProjKernelIdeal.defs (F := Ideal)) (onTc (τ := Cert.OddProjKernelIdeal.τ) (Cert.OddProjKernelIdeal.main (F := Ideal))) ⟨m, fun _ => 0, g⟩ (fun r => ∀ c : Dev Cert.OddProjKernelIdeal.nD,
          r.2.mem ((c.tc : Thread Cert.OddProjKernelIdeal.nD Cert.OddProjKernelIdeal.τ).loc Cert.OddProjKernelIdeal.main_v1) = v0 c
          ∧ r.2.mem ((c.tc : Thread Cert.OddProjKernelIdeal.nD Cert.OddProjKernelIdeal.τ).loc Cert.OddProjKernelIdeal.main_arg0) = m ((c.tc : Thread Cert.OddProjKernelIdeal.nD Cert.OddProjKernelIdeal.τ).loc Cert.OddProjKernelIdeal.main_arg0)
          ∧ r.2.mem ((c.tc : Thread Cert.OddProjKernelIdeal.nD Cert.OddProjKernelIdeal.τ).loc Cert.OddProjKernelIdeal.main_arg1) = m ((c.tc : Thread Cert.OddProjKernelIdeal.nD Cert.OddProjKernelIdeal.τ).loc Cert.OddProjKernelIdeal.main_arg1)
          ∧ r.2.mem ((c.tc : Thread Cert.OddProjKernelIdeal.nD Cert.OddProjKernelIdeal.τ).loc Cert.OddProjKernelIdeal.main_arg2) = m ((c.tc : Thread Cert.OddProjKernelIdeal.nD Cert.OddProjKernelIdeal.τ).loc Cert.OddProjKernelIdeal.main_arg2))
      ∧ θ_run (Cert.OddProjReferenceIdeal.defs (F := Ideal)) (onTc (τ := Cert.OddProjReferenceIdeal.τ) (Cert.OddProjReferenceIdeal.main (F := Ideal))) ⟨m', fun _ => 0, g'⟩ (fun r => ∀ c : Dev Cert.OddProjReferenceIdeal.nD,
          r.2.mem ((c.tc : Thread Cert.OddProjReferenceIdeal.nD Cert.OddProjReferenceIdeal.τ).loc Cert.OddProjReferenceIdeal.main_v2) = v0 c
          ∧ r.2.mem ((c.tc : Thread Cert.OddProjReferenceIdeal.nD Cert.OddProjReferenceIdeal.τ).loc Cert.OddProjReferenceIdeal.main_arg0) = m' ((c.tc : Thread Cert.OddProjReferenceIdeal.nD Cert.OddProjReferenceIdeal.τ).loc Cert.OddProjReferenceIdeal.main_arg0)
          ∧ r.2.mem ((c.tc : Thread Cert.OddProjReferenceIdeal.nD Cert.OddProjReferenceIdeal.τ).loc Cert.OddProjReferenceIdeal.main_arg1) = m' ((c.tc : Thread Cert.OddProjReferenceIdeal.nD Cert.OddProjReferenceIdeal.τ).loc Cert.OddProjReferenceIdeal.main_arg1)
          ∧ r.2.mem ((c.tc : Thread Cert.OddProjReferenceIdeal.nD Cert.OddProjReferenceIdeal.τ).loc Cert.OddProjReferenceIdeal.main_arg2) = m' ((c.tc : Thread Cert.OddProjReferenceIdeal.nD Cert.OddProjReferenceIdeal.τ).loc Cert.OddProjReferenceIdeal.main_arg2))

def preserves_OddInKernel_OddInKernelIdeal : Prop :=
  True

def algebraic_OddInKernelIdeal_OddInReferenceIdeal [hOddInKernelIdeal : Cert.OddInKernelIdeal.Facts] [hOddInReferenceIdeal : Cert.OddInReferenceIdeal.Facts] : Prop :=
  ∀ (m : (ℓ : Loc Cert.OddInKernelIdeal.nD Cert.OddInKernelIdeal.τ Cert.OddInKernelIdeal.sig) → Buf (Elt Ideal) ℓ) (g : Dev Cert.OddInKernelIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInKernelIdeal m →
    (∀ c : Dev Cert.OddInKernelIdeal.nD,
      m' ((c.tc : Thread Cert.OddInReferenceIdeal.nD Cert.OddInReferenceIdeal.τ).loc Cert.OddInReferenceIdeal.main_arg0) = m ((c.tc : Thread Cert.OddInKernelIdeal.nD Cert.OddInKernelIdeal.τ).loc Cert.OddInKernelIdeal.main_arg0)
      ∧ m' ((c.tc : Thread Cert.OddInReferenceIdeal.nD Cert.OddInReferenceIdeal.τ).loc Cert.OddInReferenceIdeal.main_arg1) = m ((c.tc : Thread Cert.OddInKernelIdeal.nD Cert.OddInKernelIdeal.τ).loc Cert.OddInKernelIdeal.main_arg1)
      ∧ m' ((c.tc : Thread Cert.OddInReferenceIdeal.nD Cert.OddInReferenceIdeal.τ).loc Cert.OddInReferenceIdeal.main_arg2) = m ((c.tc : Thread Cert.OddInKernelIdeal.nD Cert.OddInKernelIdeal.τ).loc Cert.OddInKernelIdeal.main_arg2)) →
    ∃ (v0 : (c : Dev Cert.OddInKernelIdeal.nD) → Buf (Elt Ideal) ((c.tc : Thread Cert.OddInKernelIdeal.nD Cert.OddInKernelIdeal.τ).loc Cert.OddInKernelIdeal.main_v6_0)) (v1 : (c : Dev Cert.OddInKernelIdeal.nD) → Buf (Elt Ideal) ((c.tc : Thread Cert.OddInKernelIdeal.nD Cert.OddInKernelIdeal.τ).loc Cert.OddInKernelIdeal.main_v6_1)),
      θ_run (Cert.OddInKernelIdeal.defs (F := Ideal)) (onTc (τ := Cert.OddInKernelIdeal.τ) (Cert.OddInKernelIdeal.main (F := Ideal))) ⟨m, fun _ => 0, g⟩ (fun r => ∀ c : Dev Cert.OddInKernelIdeal.nD,
          r.2.mem ((c.tc : Thread Cert.OddInKernelIdeal.nD Cert.OddInKernelIdeal.τ).loc Cert.OddInKernelIdeal.main_v6_0) = v0 c
          ∧ r.2.mem ((c.tc : Thread Cert.OddInKernelIdeal.nD Cert.OddInKernelIdeal.τ).loc Cert.OddInKernelIdeal.main_v6_1) = v1 c
          ∧ r.2.mem ((c.tc : Thread Cert.OddInKernelIdeal.nD Cert.OddInKernelIdeal.τ).loc Cert.OddInKernelIdeal.main_arg0) = m ((c.tc : Thread Cert.OddInKernelIdeal.nD Cert.OddInKernelIdeal.τ).loc Cert.OddInKernelIdeal.main_arg0)
          ∧ r.2.mem ((c.tc : Thread Cert.OddInKernelIdeal.nD Cert.OddInKernelIdeal.τ).loc Cert.OddInKernelIdeal.main_arg1) = m ((c.tc : Thread Cert.OddInKernelIdeal.nD Cert.OddInKernelIdeal.τ).loc Cert.OddInKernelIdeal.main_arg1)
          ∧ r.2.mem ((c.tc : Thread Cert.OddInKernelIdeal.nD Cert.OddInKernelIdeal.τ).loc Cert.OddInKernelIdeal.main_arg2) = m ((c.tc : Thread Cert.OddInKernelIdeal.nD Cert.OddInKernelIdeal.τ).loc Cert.OddInKernelIdeal.main_arg2))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v15) = v0 c
          ∧ r.2.mem ((c.tc : Thread Cert.OddInReferenceIdeal.nD Cert.OddInReferenceIdeal.τ).loc Cert.OddInReferenceIdeal.main_v17) = v1 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hFfnMidKernel : Cert.FfnMidKernel.Facts) (hFfnMidKernelIdeal : Cert.FfnMidKernelIdeal.Facts) (hFfnMidReferenceIdeal : Cert.FfnMidReferenceIdeal.Facts) (hSguKernel : Cert.SguKernel.Facts) (hSguKernelIdeal : Cert.SguKernelIdeal.Facts) (hSguReferenceIdeal : Cert.SguReferenceIdeal.Facts) (hProjKernel : Cert.ProjKernel.Facts) (hProjKernelIdeal : Cert.ProjKernelIdeal.Facts) (hProjReferenceIdeal : Cert.ProjReferenceIdeal.Facts) (hInKernel : Cert.InKernel.Facts) (hInKernelIdeal : Cert.InKernelIdeal.Facts) (hInReferenceIdeal : Cert.InReferenceIdeal.Facts) (hOddProjKernel : Cert.OddProjKernel.Facts) (hOddProjKernelIdeal : Cert.OddProjKernelIdeal.Facts) (hOddProjReferenceIdeal : Cert.OddProjReferenceIdeal.Facts) (hOddInKernel : Cert.OddInKernel.Facts) (hOddInKernelIdeal : Cert.OddInKernelIdeal.Facts) (hOddInReferenceIdeal : Cert.OddInReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_FfnMidKernel (hFfnMidKernel := hFfnMidKernel)
    ∧ quiescent_FfnMidKernelIdeal (hFfnMidKernelIdeal := hFfnMidKernelIdeal)
    ∧ quiescent_FfnMidReferenceIdeal (hFfnMidReferenceIdeal := hFfnMidReferenceIdeal)
    ∧ quiescent_SguKernel (hSguKernel := hSguKernel)
    ∧ quiescent_SguKernelIdeal (hSguKernelIdeal := hSguKernelIdeal)
    ∧ quiescent_SguReferenceIdeal (hSguReferenceIdeal := hSguReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OddProjKernel (hOddProjKernel := hOddProjKernel)
    ∧ quiescent_OddProjKernelIdeal (hOddProjKernelIdeal := hOddProjKernelIdeal)
    ∧ quiescent_OddProjReferenceIdeal (hOddProjReferenceIdeal := hOddProjReferenceIdeal)
    ∧ quiescent_OddInKernel (hOddInKernel := hOddInKernel)
    ∧ quiescent_OddInKernelIdeal (hOddInKernelIdeal := hOddInKernelIdeal)
    ∧ quiescent_OddInReferenceIdeal (hOddInReferenceIdeal := hOddInReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_FfnMidKernel_FfnMidKernelIdeal
    ∧ algebraic_FfnMidKernelIdeal_FfnMidReferenceIdeal (hFfnMidKernelIdeal := hFfnMidKernelIdeal) (hFfnMidReferenceIdeal := hFfnMidReferenceIdeal)
    ∧ preserves_SguKernel_SguKernelIdeal
    ∧ algebraic_SguKernelIdeal_SguReferenceIdeal (hSguKernelIdeal := hSguKernelIdeal) (hSguReferenceIdeal := hSguReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_InKernel_InKernelIdeal
    ∧ algebraic_InKernelIdeal_InReferenceIdeal (hInKernelIdeal := hInKernelIdeal) (hInReferenceIdeal := hInReferenceIdeal)
    ∧ preserves_OddProjKernel_OddProjKernelIdeal
    ∧ algebraic_OddProjKernelIdeal_OddProjReferenceIdeal (hOddProjKernelIdeal := hOddProjKernelIdeal) (hOddProjReferenceIdeal := hOddProjReferenceIdeal)
    ∧ preserves_OddInKernel_OddInKernelIdeal
    ∧ algebraic_OddInKernelIdeal_OddInReferenceIdeal (hOddInKernelIdeal := hOddInKernelIdeal) (hOddInReferenceIdeal := hOddInReferenceIdeal)
-- ==== Kernel.lean ====
abbrev S16384x5120 : Shape := ⟨2, ![16384, 5120]⟩
abbrev S16384x128 : Shape := ⟨2, ![16384, 128]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S16384x1024 : Shape := ⟨2, ![16384, 1024]⟩
abbrev S64x512 : Shape := ⟨2, ![64, 512]⟩
abbrev S64x1024 : Shape := ⟨2, ![64, 1024]⟩
abbrev S64x128 : Shape := ⟨2, ![64, 128]⟩
abbrev S4x128x256 : Shape := ⟨3, ![4, 128, 256]⟩
abbrev S64x64 : Shape := ⟨2, ![64, 64]⟩
abbrev S1x128 : Shape := ⟨2, ![1, 128]⟩
abbrev S64x256 : Shape := ⟨2, ![64, 256]⟩
abbrev S1x128x256 : Shape := ⟨3, ![1, 128, 256]⟩
abbrev S128x256 : Shape := ⟨2, ![128, 256]⟩
abbrev S128x64 : Shape := ⟨2, ![128, 64]⟩
abbrev S128x1 : Shape := ⟨2, ![128, 1]⟩
abbrev S64 : Shape := ⟨1, ![64]⟩
abbrev S64x1 : Shape := ⟨2, ![64, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x5120, .f32⟩
  | .hbm, ⟨1, _⟩ => ⟨S16384x128, .f32⟩
  | .hbm, ⟨2, _⟩ => ⟨S16x512, .f32⟩
  | .hbm, ⟨3, _⟩ => ⟨S512, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S1x256, .f32⟩
  | .hbm, ⟨11, _⟩ => ⟨S16384x1024, .bf16⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S64x1024, .bf16⟩
  | .local _ .vmem, ⟨14, _⟩ => ⟨S64x1024, .bf16⟩
  | .local _ .vmem, ⟨15, _⟩ => ⟨S4x128x256, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x5120 : Shape := ⟨2, ![16384, 5120]⟩
abbrev S16384x128 : Shape := ⟨2, ![16384, 128]⟩
abbrev S16x512 : Shape := ⟨2, ![16, 512]⟩
abbrev S512 : Shape := ⟨1, ![512]⟩
abbrev S256 : Shape := ⟨1, ![256]⟩
abbrev S16384x512 : Shape := ⟨2, ![16384, 512]⟩
abbrev S4x4096x4x128 : Shape := ⟨4, ![4, 4096, 4, 128]⟩
abbrev S16384x1024 : Shape := ⟨2, ![16384, 1024]⟩
abbrev S4x4096x4x256 : Shape := ⟨4, ![4, 4096, 4, 256]⟩
abbrev S16384x16 : Shape := ⟨2, ![16384, 16]⟩
abbrev S1x512 : Shape := ⟨2, ![1, 512]⟩
abbrev S_ : Shape := ⟨0, ![]⟩
abbrev S4x64x64x4x128 : Shape := ⟨5, ![4, 64, 64, 4, 128]⟩
abbrev S64x4x4x64x128 : Shape := ⟨5, ![64, 4, 4, 64, 128]⟩
abbrev S4x64x64x4x256 : Shape := ⟨5, ![4, 64, 64, 4, 256]⟩
abbrev S64x4x4x64x256 : Shape := ⟨5, ![64, 4, 4, 64, 256]⟩
abbrev S64x4x4x1x128 : Shape := ⟨5, ![64, 4, 4, 1, 128]⟩
abbrev S64x64 : Shape := ⟨2, ![64, 64]⟩
abbrev S64x4x4x64x64 : Shape := ⟨5, ![64, 4, 4, 64, 64]⟩
abbrev S64x4x4x128 : Shape := ⟨4, ![64, 4, 4, 128]⟩
abbrev S4x4x128x256 : Shape := ⟨4, ![4, 4, 128, 256]⟩
abbrev S1x4x4x64x256 : Shape := ⟨5, ![1, 4, 4, 64, 256]⟩
abbrev S4x4x64x256 : Shape := ⟨4, ![4, 4, 64, 256]⟩
abbrev S1x4x4x64x128 : Shape := ⟨5, ![1, 4, 4, 64, 128]⟩
abbrev S4x4x64x128 : Shape := ⟨4, ![4, 4, 64, 128]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩

abbrev nBuf : Space → Nat
  | .hbm => 179
  | .vmem => 0
  | .smem => 0
  | _ => 0

abbrev hbmTy0_0 (i : Nat) : BufTy := match i % 128 with
  | 0 => ⟨S16384x5120, .f32⟩
  | 1 => ⟨S16384x128, .f32⟩
  | 2 => ⟨S16x512, .f32⟩
  | 3 => ⟨S512, .f32⟩
  | 4 => ⟨S256, .f32⟩
  | 5 => ⟨S16384x512, .f32⟩
  | 6 => ⟨S4x4096x4x128, .f32⟩
  | 7 => ⟨S16384x512, .f32⟩
  | 8 => ⟨S4x4096x4x128, .f32⟩
  | 9 => ⟨S16384x1024, .f32⟩
  | 10 => ⟨S4x4096x4x256, .f32⟩
  | 11 => ⟨S16384x16, .f32⟩
  | 12 => ⟨S16384x512, .f32⟩
  | 13 => ⟨S1x512, .f32⟩
  | 14 => ⟨S16384x512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S16384x512, .f32⟩
  | 21 => ⟨S16384x512, .f32⟩
  | 22 => ⟨S16384x512, .i1⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S16384x512, .f32⟩
  | 31 => ⟨S16384x512, .f32⟩
  | 32 => ⟨S_, .f32⟩
  | 33 => ⟨S16384x512, .f32⟩
  | 34 => ⟨S16384x512, .f32⟩
  | 35 => ⟨S4x4096x4x128, .f32⟩
  | 36 => ⟨S4x64x64x4x128, .f32⟩
  | 37 => ⟨S64x4x4x64x128, .f32⟩
  | 38 => ⟨S_, .f32⟩
  | 39 => ⟨S64x4x4x64x128, .f32⟩
  | 40 => ⟨S64x4x4x64x128, .f32⟩
  | 41 => ⟨S4x64x64x4x128, .f32⟩
  | 42 => ⟨S64x4x4x64x128, .f32⟩
  | 43 => ⟨S4x64x64x4x256, .f32⟩
  | 44 => ⟨S64x4x4x64x256, .f32⟩
  | 45 => ⟨S4x64x64x4x128, .f32⟩
  | 46 => ⟨S64x4x4x64x128, .f32⟩
  | 47 => ⟨S_, .f32⟩
  | 48 => ⟨S_, .f32⟩
  | 49 => ⟨S64x4x4x64x128, .f32⟩
  | 50 => ⟨S64x4x4x1x128, .f32⟩
  | 51 => ⟨S_, .f32⟩
  | 52 => ⟨S64x4x4x1x128, .f32⟩
  | 53 => ⟨S64x4x4x1x128, .f32⟩
  | 54 => ⟨S64x4x4x64x128, .f32⟩
  | 55 => ⟨S64x4x4x64x128, .f32⟩
  | 56 => ⟨S64x4x4x64x128, .f32⟩
  | 57 => ⟨S64x4x4x64x128, .f32⟩
  | 58 => ⟨S64x4x4x64x128, .f32⟩
  | 59 => ⟨S64x4x4x64x128, .f32⟩
  | 60 => ⟨S64x4x4x64x128, .f32⟩
  | 61 => ⟨S64x4x4x64x128, .f32⟩
  | 62 => ⟨S_, .i1⟩
  | 63 => ⟨S64x64, .i1⟩
  | 64 => ⟨S64x64, .i32⟩
  | 65 => ⟨S_, .i32⟩
  | 66 => ⟨S64x64, .i32⟩
  | 67 => ⟨S64x64, .i32⟩
  | 68 => ⟨S64x64, .i32⟩
  | 69 => ⟨S64x64, .i1⟩
  | 70 => ⟨S_, .i1⟩
  | 71 => ⟨S64x64, .i1⟩
  | 72 => ⟨S64x64, .i1⟩
  | 73 => ⟨S64x4x4x64x64, .f32⟩
  | 74 => ⟨S_, .f32⟩
  | 75 => ⟨S_, .f32⟩
  | 76 => ⟨S64x4x4x64x64, .i1⟩
  | 77 => ⟨S64x4x4x64x64, .f32⟩
  | 78 => ⟨S64x4x4x64x64, .f32⟩
  | 79 => ⟨S64x4x4x64x256, .f32⟩
  | 80 => ⟨S64x4x4x64x128, .f32⟩
  | 81 => ⟨S64x4x4x64x128, .f32⟩
  | 82 => ⟨S64x4x4x64x128, .f32⟩
  | 83 => ⟨S64x4x4x64x128, .f32⟩
  | 84 => ⟨S64x4x4x64x128, .f32⟩
  | 85 => ⟨S64x4x4x64x128, .f32⟩
  | 86 => ⟨S64x4x4x128, .f32⟩
  | 87 => ⟨S64x4x4x128, .f32⟩
  | 88 => ⟨S_, .f32⟩
  | 89 => ⟨S4x4x128x256, .f32⟩
  | 90 => ⟨S_, .f32⟩
  | 91 => ⟨S64x4x4x64x256, .f32⟩
  | 92 => ⟨S_, .i32⟩
  | 93 => ⟨S64x4x4x64x256, .f32⟩
  | 94 => ⟨S64x4x4x64x128, .f32⟩
  | 95 => ⟨S64x4x4x64x128, .f32⟩
  | 96 => ⟨S64x4x4x64x256, .f32⟩
  | 97 => ⟨S64x4x4x128, .f32⟩
  | 98 => ⟨S_, .i32⟩
  | 99 => ⟨S4x4x128x256, .f32⟩
  | 100 => ⟨S64x4x4x64x256, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S1x4x4x64x256, .f32⟩
  | 108 => ⟨S4x4x64x256, .f32⟩
  | 109 => ⟨S_, .i32⟩
  | 110 => ⟨S_, .i32⟩
  | 111 => ⟨S_, .i32⟩
  | 112 => ⟨S_, .i32⟩
  | 113 => ⟨S1x4x4x64x128, .f32⟩
  | 114 => ⟨S4x4x64x128, .f32⟩
  | 115 => ⟨S_, .i32⟩
  | 116 => ⟨S_, .i32⟩
  | 117 => ⟨S_, .i32⟩
  | 118 => ⟨S_, .i32⟩
  | 119 => ⟨S1x4x4x64x128, .f32⟩
  | 120 => ⟨S4x4x64x128, .f32⟩
  | 121 => ⟨S_, .i32⟩
  | 122 => ⟨S_, .i32⟩
  | 123 => ⟨S_, .i32⟩
  | 124 => ⟨S_, .i32⟩
  | 125 => ⟨S1x4x4x64x256, .f32⟩
  | 126 => ⟨S4x4x64x256, .f32⟩
  | 127 => ⟨S_, .i32⟩
  | _ => ⟨S16384x5120, .f32⟩

abbrev hbmTy0_1 (i : Nat) : BufTy := match i % 128 with
  | 0 => ⟨S_, .i32⟩
  | 1 => ⟨S_, .i32⟩
  | 2 => ⟨S1x4x4x128, .f32⟩
  | 3 => ⟨S4x4x128, .f32⟩
  | 4 => ⟨S4x4x64x256, .f32⟩
  | 5 => ⟨S4x4x64x256, .f32⟩
  | 6 => ⟨S4x4x128x1, .f32⟩
  | 7 => ⟨S4x4x128x256, .f32⟩
  | 8 => ⟨S4x4x128x256, .f32⟩
  | 9 => ⟨S4x4x128x256, .f32⟩
  | 10 => ⟨S4x4x128x256, .f32⟩
  | 11 => ⟨S1x4x4x64x256, .f32⟩
  | 12 => ⟨S_, .i32⟩
  | 13 => ⟨S_, .i32⟩
  | 14 => ⟨S_, .i32⟩
  | 15 => ⟨S_, .i32⟩
  | 16 => ⟨S64x4x4x64x256, .f32⟩
  | 17 => ⟨S_, .i32⟩
  | 18 => ⟨S_, .i32⟩
  | 19 => ⟨S4x64x64x4x256, .f32⟩
  | 20 => ⟨S4x4096x4x256, .f32⟩
  | 21 => ⟨S4x4096x4x256, .f32⟩
  | 22 => ⟨S_, .f32⟩
  | 23 => ⟨S4x4096x4, .f32⟩
  | 24 => ⟨S4x4096x4x1, .f32⟩
  | 25 => ⟨S_, .f32⟩
  | 26 => ⟨S4x4096x4x1, .f32⟩
  | 27 => ⟨S4x4096x4x1, .f32⟩
  | 28 => ⟨S_, .f32⟩
  | 29 => ⟨S4x4096x4x1, .f32⟩
  | 30 => ⟨S4x4096x4x1, .f32⟩
  | 31 => ⟨S4x4096x4x1, .f32⟩
  | 32 => ⟨S4x4096x4x256, .f32⟩
  | 33 => ⟨S4x4096x4x256, .f32⟩
  | 34 => ⟨S1x1x1x256, .f32⟩
  | 35 => ⟨S4x4096x4x256, .f32⟩
  | 36 => ⟨S4x4096x4x256, .f32⟩
  | 37 => ⟨S16384x1024, .f32⟩
  | 38 => ⟨S4x4096x4x256, .f32⟩
  | 39 => ⟨S4x4096x4x256, .f32⟩
  | 40 => ⟨S4x4096x4x256, .f32⟩
  | 41 => ⟨S_, .f32⟩
  | 42 => ⟨S4x4096x4x256, .f32⟩
  | 43 => ⟨S4x4096x4x256, .f32⟩
  | 44 => ⟨S_, .f32⟩
  | 45 => ⟨S4x4096x4x256, .f32⟩
  | 46 => ⟨S4x4096x4x256, .f32⟩
  | 47 => ⟨S4x4096x4x256, .f32⟩
  | 48 => ⟨S4x4096x4x256, .f32⟩
  | 49 => ⟨S16384x1024, .f32⟩
  | 50 => ⟨S16384x1024, .bf16⟩
  | _ => ⟨S16384x5120, .f32⟩

abbrev hbmTy (i : Nat) : BufTy := match i / 128 with
  | 0 => hbmTy0_0 i
  | 1 => hbmTy0_1 i
  | _ => ⟨S16384x5120, .f32⟩

abbrev bufTy : (tb : Table) → Fin (tcTables nBuf tb) → BufTy
  | .hbm, ⟨i, _⟩ => hbmTy i
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_call0_cst : Ref sig .tc := ⟨.hbm, 47, rfl⟩
abbrev main_call1_call0_v0 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c : Ref sig .tc := ⟨.hbm, 62, rfl⟩
abbrev main_v37 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_0 : Ref sig .tc := ⟨.hbm, 70, rfl⟩
abbrev main_call2_v5 : Ref sig .tc := ⟨.hbm, 71, rfl⟩
abbrev main_v38 : Ref sig .tc := ⟨.hbm, 72, rfl⟩
abbrev main_v39 : Ref sig .tc := ⟨.hbm, 73, rfl⟩
abbrev main_cst_2 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_3 : Ref sig .tc := ⟨.hbm, 88, rfl⟩
abbrev main_v50 : Ref sig .tc := ⟨.hbm, 89, rfl⟩
abbrev main_cst_4 : Ref sig .tc := ⟨.hbm, 90, rfl⟩
abbrev main_v51 : Ref sig .tc := ⟨.hbm, 91, rfl⟩
abbrev main_c_5 : Ref sig .tc := ⟨.hbm, 92, rfl⟩
abbrev main_v52_0 : Ref sig .tc := ⟨.hbm, 93, rfl⟩
abbrev main_v52_1 : Ref sig .tc := ⟨.hbm, 94, rfl⟩
abbrev main_v52_2 : Ref sig .tc := ⟨.hbm, 95, rfl⟩
abbrev main_v52_3 : Ref sig .tc := ⟨.hbm, 96, rfl⟩
abbrev main_v52_4 : Ref sig .tc := ⟨.hbm, 97, rfl⟩
abbrev main_v52_5 : Ref sig .tc := ⟨.hbm, 98, rfl⟩
abbrev main_v52_6 : Ref sig .tc := ⟨.hbm, 99, rfl⟩
abbrev main_v52_7 : Ref sig .tc := ⟨.hbm, 100, rfl⟩
abbrev main_while0c_c_16 : Ref sig .tc := ⟨.hbm, 101, rfl⟩
abbrev main_while0c_v74 : Ref sig .tc := ⟨.hbm, 102, rfl⟩
abbrev main_while0b_call4_c : Ref sig .tc := ⟨.hbm, 103, rfl⟩
abbrev main_while0b_call4_c_0 : Ref sig .tc := ⟨.hbm, 104, rfl⟩
abbrev main_while0b_call4_c_1 : Ref sig .tc := ⟨.hbm, 105, rfl⟩
abbrev main_while0b_call4_c_2 : Ref sig .tc := ⟨.hbm, 106, rfl⟩
abbrev main_while0b_call4_v0 : Ref sig .tc := ⟨.hbm, 107, rfl⟩
abbrev main_while0b_v74 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v75 : Ref sig .tc := ⟨.hbm, 114, rfl⟩
abbrev main_while0b_call6_c : Ref sig .tc := ⟨.hbm, 115, rfl⟩
abbrev main_while0b_call6_c_0 : Ref sig .tc := ⟨.hbm, 116, rfl⟩
abbrev main_while0b_call6_c_1 : Ref sig .tc := ⟨.hbm, 117, rfl⟩
abbrev main_while0b_call6_c_2 : Ref sig .tc := ⟨.hbm, 118, rfl⟩
abbrev main_while0b_call6_v0 : Ref sig .tc := ⟨.hbm, 119, rfl⟩
abbrev main_while0b_v76 : Ref sig .tc := ⟨.hbm, 120, rfl⟩
abbrev main_while0b_call7_c : Ref sig .tc := ⟨.hbm, 121, rfl⟩
abbrev main_while0b_call7_c_0 : Ref sig .tc := ⟨.hbm, 122, rfl⟩
abbrev main_while0b_call7_c_1 : Ref sig .tc := ⟨.hbm, 123, rfl⟩
abbrev main_while0b_call7_c_2 : Ref sig .tc := ⟨.hbm, 124, rfl⟩
abbrev main_while0b_call7_v0 : Ref sig .tc := ⟨.hbm, 125, rfl⟩
abbrev main_while0b_v77 : Ref sig .tc := ⟨.hbm, 126, rfl⟩
abbrev main_while0b_call8_c : Ref sig .tc := ⟨.hbm, 127, rfl⟩
abbrev main_while0b_call8_c_0 : Ref sig .tc := ⟨.hbm, 128, rfl⟩
abbrev main_while0b_call8_c_1 : Ref sig .tc := ⟨.hbm, 129, rfl⟩
abbrev main_while0b_call8_v0 : Ref sig .tc := ⟨.hbm, 130, rfl⟩
abbrev main_while0b_v78 : Ref sig .tc := ⟨.hbm, 131, rfl⟩
abbrev main_while0b_v79 : Ref sig .tc := ⟨.hbm, 132, rfl⟩
abbrev main_while0b_v80 : Ref sig .tc := ⟨.hbm, 133, rfl⟩
abbrev main_while0b_v81 : Ref sig .tc := ⟨.hbm, 134, rfl⟩
abbrev main_while0b_v82 : Ref sig .tc := ⟨.hbm, 135, rfl⟩
abbrev main_while0b_v83 : Ref sig .tc := ⟨.hbm, 136, rfl⟩
abbrev main_while0b_v84 : Ref sig .tc := ⟨.hbm, 137, rfl⟩
abbrev main_while0b_v85 : Ref sig .tc := ⟨.hbm, 138, rfl⟩
abbrev main_while0b_call9_v0 : Ref sig .tc := ⟨.hbm, 139, rfl⟩
abbrev main_while0b_call9_c : Ref sig .tc := ⟨.hbm, 140, rfl⟩
abbrev main_while0b_call9_c_0 : Ref sig .tc := ⟨.hbm, 141, rfl⟩
abbrev main_while0b_call9_c_1 : Ref sig .tc := ⟨.hbm, 142, rfl⟩
abbrev main_while0b_call9_c_2 : Ref sig .tc := ⟨.hbm, 143, rfl⟩
abbrev main_while0b_v86 : Ref sig .tc := ⟨.hbm, 144, rfl⟩
abbrev main_while0b_c_16 : Ref sig .tc := ⟨.hbm, 145, rfl⟩
abbrev main_while0b_v87 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_cst_6 : Ref sig .tc := ⟨.hbm, 150, rfl⟩
abbrev main_v56 : Ref sig .tc := ⟨.hbm, 151, rfl⟩
abbrev main_v57 : Ref sig .tc := ⟨.hbm, 152, rfl⟩
abbrev main_cst_7 : Ref sig .tc := ⟨.hbm, 153, rfl⟩
abbrev main_v58 : Ref sig .tc := ⟨.hbm, 154, rfl⟩
abbrev main_v59 : Ref sig .tc := ⟨.hbm, 155, rfl⟩
abbrev main_cst_8 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_call10_v0 : Ref sig .tc := ⟨.hbm, 167, rfl⟩
abbrev main_call10_v1 : Ref sig .tc := ⟨.hbm, 168, rfl⟩
abbrev main_call10_cst : Ref sig .tc := ⟨.hbm, 169, rfl⟩
abbrev main_call10_v2 : Ref sig .tc := ⟨.hbm, 170, rfl⟩
abbrev main_call10_v3 : Ref sig .tc := ⟨.hbm, 171, rfl⟩
abbrev main_call10_cst_0 : Ref sig .tc := ⟨.hbm, 172, rfl⟩
abbrev main_call10_v4 : Ref sig .tc := ⟨.hbm, 173, rfl⟩
abbrev main_call10_v5 : Ref sig .tc := ⟨.hbm, 174, rfl⟩
abbrev main_v70 : Ref sig .tc := ⟨.hbm, 175, rfl⟩
abbrev main_v71 : Ref sig .tc := ⟨.hbm, 176, rfl⟩
abbrev main_v72 : Ref sig .tc := ⟨.hbm, 177, rfl⟩
abbrev main_v73 : Ref sig .tc := ⟨.hbm, 178, rfl⟩

abbrev nD : Nat := 1
abbrev τ : Topo := Topo.v7x

variable {F : FTy → Type} [FloatOps F]

abbrev main_while0_count : Scf.Loop 32 := ⟨0#32, 64#32, 1#32⟩
-- ==== FfnKernel.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== FfnMidKernel.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnMidReferenceIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S16384x2048, .f32⟩
  | .hbm, ⟨27, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== SguKernel.lean ====
abbrev S16384x5120 : Shape := ⟨2, ![16384, 5120]⟩
abbrev S8x128 : Shape := ⟨2, ![8, 128]⟩
abbrev S8x128x128 : Shape := ⟨3, ![8, 128, 128]⟩
abbrev S128x8 : Shape := ⟨2, ![128, 8]⟩
abbrev S16384x1024 : Shape := ⟨2, ![16384, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 6
  | .vmem => 9
  | .smem => 0
  | _ => 0

abbrev bufTy : (tb : Table) → Fin (tcTables nBuf tb) → BufTy
  | .hbm, ⟨0, _⟩ => ⟨S16384x5120, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S16384x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128, .f32⟩
  | .local _ .vmem, ⟨5, _⟩ => ⟨S8x128x128, .f32⟩
  | .local _ .vmem, ⟨6, _⟩ => ⟨S128x8, .f32⟩
  | .local _ .vmem, ⟨7, _⟩ => ⟨S128x1024, .bf16⟩
  | .local _ .vmem, ⟨8, _⟩ => ⟨S128x1024, .bf16⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguReferenceIdeal.lean ====
abbrev S16384x5120 : Shape := ⟨2, ![16384, 5120]⟩
abbrev S8x128 : Shape := ⟨2, ![8, 128]⟩
abbrev S8x128x128 : Shape := ⟨3, ![8, 128, 128]⟩
abbrev S16384x1024 : Shape := ⟨2, ![16384, 1024]⟩
abbrev S_ : Shape := ⟨0, ![]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x8x128 : Shape := ⟨4, ![1, 1, 8, 128]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x5120, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S4x4096x8x128, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S4x4096x8x128, .f32⟩
  | .hbm, ⟨26, _⟩ => ⟨S_, .f32⟩
  | .hbm, ⟨27, _⟩ => ⟨S4x4096x8, .f32⟩
  | .hbm, ⟨28, _⟩ => ⟨S4x4096x8x1, .f32⟩
  | .hbm, ⟨29, _⟩ => ⟨S_, .f32⟩
  | .hbm, ⟨30, _⟩ => ⟨S4x4096x8x1, .f32⟩
  | .hbm, ⟨31, _⟩ => ⟨S4x4096x8x1, .f32⟩
  | .hbm, ⟨32, _⟩ => ⟨S4x4096x8x128, .f32⟩
  | .hbm, ⟨33, _⟩ => ⟨S4x4096x8x128, .f32⟩
  | .hbm, ⟨34, _⟩ => ⟨S4x4096x8x128, .f32⟩
  | .hbm, ⟨35, _⟩ => ⟨S_, .f32⟩
  | .hbm, ⟨36, _⟩ => ⟨S4x4096x8, .f32⟩
  | .hbm, ⟨37, _⟩ => ⟨S4x4096x8x1, .f32⟩
  | .hbm, ⟨38, _⟩ => ⟨S_, .f32⟩
  | .hbm, ⟨39, _⟩ => ⟨S4x4096x8x1, .f32⟩
  | .hbm, ⟨40, _⟩ => ⟨S4x4096x8x1, .f32⟩
  | .hbm, ⟨41, _⟩ => ⟨S_, .f32⟩
  | .hbm, ⟨42, _⟩ => ⟨S4x4096x8x1, .f32⟩
  | .hbm, ⟨43, _⟩ => ⟨S4x4096x8x1, .f32⟩
  | .hbm, ⟨44, _⟩ => ⟨S4x4096x8x1, .f32⟩
  | .hbm, ⟨45, _⟩ => ⟨S4x4096x8x128, .f32⟩
  | .hbm, ⟨46, _⟩ => ⟨S4x4096x8x128, .f32⟩
  | .hbm, ⟨47, _⟩ => ⟨S1x1x8x128, .f32⟩
  | .hbm, ⟨48, _⟩ => ⟨S4x4096x8x128, .f32⟩
  | .hbm, ⟨49, _⟩ => ⟨S4x4096x8x128, .f32⟩
  | .hbm, ⟨50, _⟩ => ⟨S4x32x128x8x128, .f32⟩
  | .hbm, ⟨51, _⟩ => ⟨S_, .i1⟩
  | .hbm, ⟨52, _⟩ => ⟨S128x128, .i1⟩
  | .hbm, ⟨53, _⟩ => ⟨S128x128, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S128x128, .i1⟩
  | .hbm, ⟨59, _⟩ => ⟨S_, .i1⟩
  | .hbm, ⟨60, _⟩ => ⟨S128x128, .i1⟩
  | .hbm, ⟨61, _⟩ => ⟨S128x128, .i1⟩
  | .hbm, ⟨62, _⟩ => ⟨S1x128x128, .i1⟩
  | .hbm, ⟨63, _⟩ => ⟨S_, .f32⟩
  | .hbm, ⟨64, _⟩ => ⟨S8x128x128, .f32⟩
  | .hbm, ⟨65, _⟩ => ⟨S8x128x128, .i1⟩
  | .hbm, ⟨66, _⟩ => ⟨S8x128x128, .f32⟩
  | .hbm, ⟨67, _⟩ => ⟨S8x4x32x128x128, .f32⟩
  | .hbm, ⟨68, _⟩ => ⟨S4x32x128x8x128, .f32⟩
  | .hbm, ⟨69, _⟩ => ⟨S128x8, .f32⟩
  | .hbm, ⟨70, _⟩ => ⟨S128x8x1, .f32⟩
  | .hbm, ⟨71, _⟩ => ⟨S1x1x128x8x1, .f32⟩
  | .hbm, ⟨72, _⟩ => ⟨S4x32x128x8x128, .f32⟩
  | .hbm, ⟨73, _⟩ => ⟨S4x32x128x8x128, .f32⟩
  | .hbm, ⟨74, _⟩ => ⟨S4x4096x8x128, .f32⟩
  | .hbm, ⟨75, _⟩ => ⟨S4x4096x8x128, .f32⟩
  | .hbm, ⟨76, _⟩ => ⟨S16384x1024, .f32⟩
  | .hbm, ⟨77, _⟩ => ⟨S16384x1024, .bf16⟩
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_0 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== ProjKernel.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjReferenceIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x2048, .bf16⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InKernel.lean ====
abbrev S16384x2048 : Shape := ⟨2, ![16384, 2048]⟩
abbrev S2048 : Shape := ⟨1, ![2048]⟩
abbrev S2048x5136 : Shape := ⟨2, ![2048, 5136]⟩
abbrev S2048x5120 : Shape := ⟨2, ![2048, 5120]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S16384x5120 : Shape := ⟨2, ![16384, 5120]⟩
abbrev S16384x128 : Shape := ⟨2, ![16384, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5136, .f32⟩
  | .hbm, ⟨3, _⟩ => ⟨S2048x5120, .f32⟩
  | .hbm, ⟨4, _⟩ => ⟨S2048x5120, .bf16⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S1x2048, .f32⟩
  | .hbm, ⟨11, _⟩ => ⟨S16384x5120, .f32⟩
  | .hbm, ⟨12, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InReferenceIdeal.lean ====
abbrev S16384x2048 : Shape := ⟨2, ![16384, 2048]⟩
abbrev S2048 : Shape := ⟨1, ![2048]⟩
abbrev S2048x5136 : Shape := ⟨2, ![2048, 5136]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5136 : Shape := ⟨2, ![16384, 5136]⟩
abbrev S16384x5120 : Shape := ⟨2, ![16384, 5120]⟩
abbrev S16384x16 : Shape := ⟨2, ![16384, 16]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5136, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x5136, .f32⟩
  | .hbm, ⟨20, _⟩ => ⟨S16384x5120, .f32⟩
  | .hbm, ⟨21, _⟩ => ⟨S16384x16, .f32⟩
  | .hbm, ⟨22, _⟩ => ⟨S_, .i32⟩
  | .hbm, ⟨23, _⟩ => ⟨S_, .f32⟩
  | .hbm, ⟨24, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== OddProjKernel.lean ====
abbrev S16384x2048 : Shape := ⟨2, ![16384, 2048]⟩
abbrev S2048x2048 : Shape := ⟨2, ![2048, 2048]⟩
abbrev S512x1024 : Shape := ⟨2, ![512, 1024]⟩
abbrev S512x2048 : Shape := ⟨2, ![512, 2048]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddProjReferenceIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OddInKernel.lean ====
abbrev S16384x2048 : Shape := ⟨2, ![16384, 2048]⟩
abbrev S2048 : Shape := ⟨1, ![2048]⟩
abbrev S2048x4176 : Shape := ⟨2, ![2048, 4176]⟩
abbrev S2048x4096 : Shape := ⟨2, ![2048, 4096]⟩
abbrev S2048x80 : Shape := ⟨2, ![2048, 80]⟩
abbrev S_ : Shape := ⟨0, ![]⟩
abbrev S2048x128 : Shape := ⟨2, ![2048, 128]⟩
abbrev S1x2048 : Shape := ⟨2, ![1, 2048]⟩
abbrev S16384x4096 : Shape := ⟨2, ![16384, 4096]⟩
abbrev S16384x128 : Shape := ⟨2, ![16384, 128]⟩
abbrev S512x2048 : Shape := ⟨2, ![512, 2048]⟩
abbrev S2048x1024 : Shape := ⟨2, ![2048, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4176, .f32⟩
  | .hbm, ⟨3, _⟩ => ⟨S2048x4096, .f32⟩
  | .hbm, ⟨4, _⟩ => ⟨S2048x4096, .bf16⟩
  | .hbm, ⟨5, _⟩ => ⟨S2048x80, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x128, .bf16⟩
  | .hbm, ⟨10, _⟩ => ⟨S1x2048, .f32⟩
  | .hbm, ⟨11, _⟩ => ⟨S16384x4096, .bf16⟩
  | .hbm, ⟨12, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OddInReferenceIdeal.lean ====
abbrev S16384x2048 : Shape := ⟨2, ![16384, 2048]⟩
abbrev S2048 : Shape := ⟨1, ![2048]⟩
abbrev S2048x4176 : Shape := ⟨2, ![2048, 4176]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4176 : Shape := ⟨2, ![16384, 4176]⟩
abbrev S16384x4096 : Shape := ⟨2, ![16384, 4096]⟩
abbrev S16384x80 : Shape := ⟨2, ![16384, 80]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4176, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4176, .f32⟩
  | .hbm, ⟨20, _⟩ => ⟨S16384x4096, .f32⟩
  | .hbm, ⟨21, _⟩ => ⟨S16384x4096, .bf16⟩
  | .hbm, ⟨22, _⟩ => ⟨S16384x80, .f32⟩
  | .hbm, ⟨23, _⟩ => ⟨S_, .i32⟩
  | .hbm, ⟨24, _⟩ => ⟨S_, .f32⟩
  | .hbm, ⟨25, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.In.FrameIdeal.lean ====
/-
  The frame of the in-projection's idealized kernel: its grid has 32 row blocks of 5 column blocks each, point
  `t = 5·i + j`. At `j = 0` the body normalizes the row block into its scratch and stores the projection on the extra
  columns; at every point it stores the projection of the scratch on the column block `j`. So after point `t` the scratch
  and the extra output hold what the row block's first point, `base t`, stored.
-/
module

public import proofs.«01_k».proof.Proof.Gen.InKernelIdeal.Frame
public import proofs.«01_k».proof.Proof.Gen.InKernelIdeal.Skeleton
public import Idealize.ShloMosaic.Lib.Pipeline.TableIdle
public import Idealize.ShloMosaic.Lib.VecWindow
public import Idealize.ShloMosaic.Lib.Claim

@[expose] public section

set_option maxRecDepth 16384

noncomputable section

namespace Cert.InKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem points : cfg0.N = 160 := N_0

/-- The first point of `t`'s row block. -/
def base (t : Fin cfg0.N) : Fin cfg0.N := ⟨5 * (t.val / 5), by have := t.isLt; omega⟩

theorem base_first (t : Fin cfg0.N) (h : t.val % 5 = 0) : base t = t := Fin.ext (by simp only [base]; omega)

theorem base_prev (t : Fin cfg0.N) (h : ¬ t.val % 5 = 0) :
    base ⟨t.val - 1, Nat.lt_of_le_of_lt (Nat.sub_le _ _) t.isLt⟩ = base t := Fin.ext (by simp only [base]; omega)

/-- The branch of the body is taken at the first point of a row block. -/
theorem branch_iff (t : Fin cfg0.N) : k0_cond1 (grid0.coords t) = 1#1 ↔ t.val % 5 = 0 := by
  have ht : t.val < 160 := Nat.lt_of_lt_of_eq t.isLt N_0
  have e1 : (grid0.coords t 1).val = t.val / 1 % 5 := Pipeline.Grid.coords_val t 1 (by decide) rfl
  simp only [k0_cond1, e1]
  word_cmp

/-! ## The buffers -/

abbrev buf0 (t : Fin cfg0.N) : Memref sig .tc .vmem S512x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S2048x1024 .bf16 := win0_2.stage (cfg0.slots t 2)
abbrev buf3 (t : Fin cfg0.N) : Memref sig .tc .vmem S2048x128 .bf16 := win0_3.stage (cfg0.slots t 3)
abbrev buf4 (t : Fin cfg0.N) : Memref sig .tc .vmem S512x1024 .f32 := win0_4.stage (cfg0.slots t 4)
abbrev buf5 (t : Fin cfg0.N) : Memref sig .tc .vmem S512x128 .f32 := win0_5.stage (cfg0.slots t 5)
abbrev scratch : Memref sig .tc .vmem S512x2048 .bf16 := Memref.whole cc0_scratch0

/-- What the launch hands the kernel beside its windows: the scratch and the generator's register. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The body -/

section Body

variable (c : Dev nD) (i : grid0.Coords)
  (a0 : Memref sig .tc .vmem S512x2048 .f32) (h0 : a0.IsWhole) (a1 : Memref sig .tc .vmem S1x2048 .f32) (h1 : a1.IsWhole)
  (a2 : Memref sig .tc .vmem S2048x1024 .bf16) (h2 : a2.IsWhole) (a3 : Memref sig .tc .vmem S2048x128 .bf16) (h3 : a3.IsWhole)
  (a4 : Memref sig .tc .vmem S512x1024 .f32) (h4 : a4.IsWhole) (a5 : Memref sig .tc .vmem S512x128 .f32) (h5 : a5.IsWhole)
  (a6 : Memref sig .tc .vmem S512x2048 .bf16) (h6 : a6.IsWhole)
  (x0 : Vec F S512x2048 .f32) (x1 : Vec F S1x2048 .f32) (x2 : Vec F S2048x1024 .bf16) (x3 : Vec F S2048x128 .bf16)

/-- At the first point of a row block: the normalized rows go to the scratch, their two projections to the outputs. -/
theorem first_triple (hc : k0_cond1 i = 1#1) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k0_pay4 (k0_pay2 x0 x1) x2)
            ∗ owns (c : Thread nD τ) a5 fullShare (k0_pay3 x0 x1 x3)
            ∗ owns (c : Thread nD τ) a6 fullShare (k0_pay2 x0 x1)) -∗ K ⟨⟩))
      ⊢ wp frame (wpE (defs₀ (F := F)) Variants.none c none) E
          (cc0_norm_matmul i a0 h0 a1 h1 a2 h2 a3 h3 a4 h4 a5 h5 a6 h6) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := h0.eq_unread hf0; obtain rfl := h1.eq_unread hf1; obtain rfl := h2.eq_unread hf2; obtain rfl := h3.eq_unread hf3
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    delta first_triple.sl.v3 first_triple.sl.H6_1
    rw [View.readCov_full, View.readAt_full, View.readAt_full, View.readAt_full, h0.read_unread, h1.read_unread, h2.read_unread]
  isplitl [H5]
  · iexists _; isplitr
    swap; · iexact H5
    ipureintro
    refine (View.read_writes_full _ _ _ _ _).trans ?_
    rw [View.readAt_full, View.readAt_full, View.readAt_full, h0.read_unread, h1.read_unread, h3.read_unread]
  iexists _; isplitr
  swap; · iexact H6
  ipureintro
  refine (View.read_writes_full _ _ _ _ _).trans ?_
  rw [View.readAt_full, View.readAt_full, h0.read_unread, h1.read_unread]

/-- At the other points of a row block: the scratch and the extra output stay as they are, and the scratch's projection on
    the point's columns goes to the output. -/
theorem later_triple (hc : ¬ k0_cond1 i = 1#1) (x5 : Vec F S512x128 .f32) (x6 : Vec F S512x2048 .bf16) (E : Set ℕ)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ owns (c : Thread nD τ) a5 fullShare x5
        ∗ owns (c : Thread nD τ) a6 fullShare x6
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k0_pay4 x6 x2)
            ∗ owns (c : Thread nD τ) a5 fullShare x5
            ∗ owns (c : Thread nD τ) a6 fullShare x6) -∗ K ⟨⟩))
      ⊢ wp frame (wpE (defs₀ (F := F)) Variants.none c none) E
          (cc0_norm_matmul i a0 h0 a1 h1 a2 h2 a3 h3 a4 h4 a5 h5 a6 h6) K := by
  simp only [cc0_norm_matmul_eq_skeleton]; unfold cc0_norm_matmul_skel
  unfold owns
  iintro ⟨H0, H1, ⟨%f2, %hf2, H2⟩, H3, ⟨%d4, %f4, -, H4⟩, H5, ⟨%f6, %hf6, H6⟩, Hk⟩
  obtain rfl := h2.eq_unread hf2; obtain rfl := h6.eq_unread hf6
  sl_exec (disch := first | sl_exact hc)
  sl_step
  iapply Hk
  isplitl [H0]; · iexact H0
  isplitl [H1]; · iexact H1
  isplitl [H2]
  · iexists _; isplitr; · ipureintro; exact h2.read_unread _
    iexact H2
  isplitl [H3]; · iexact H3
  isplitl [H4]
  · iexists _; isplitr
    swap; · iexact H4
    ipureintro
    refine (View.read_writes_full _ _ _ _ _).trans ?_
    rw [View.readAt_full, View.readAt_full, h2.read_unread, h6.read_unread]
  isplitl [H5]; · iexact H5
  iexists _; isplitr; · ipureintro; exact h6.read_unread _
  iexact H6

end Body

/-! ## What the buffers hold after each point -/

/-- What the body leaves in the scratch: the normalized rows of the row block. -/
def rowsAt (c : Dev nD) (t : Fin cfg0.N) : Vec F S512x2048 .bf16 := k0_pay2 (iblk m c 0 (base t)) (iblk m c 1 (base t))

/-- What it leaves in the output's buffer: their projection on the column block. -/
def outAt (c : Dev nD) (t : Fin cfg0.N) : Vec F S512x1024 .f32 := k0_pay4 (rowsAt m c t) (iblk m c 2 t)

/-- What it leaves in the extra output's buffer: their projection on the extra columns. -/
def extraAt (c : Dev nD) (t : Fin cfg0.N) : Vec F S512x128 .f32 :=
  k0_pay3 (iblk m c 0 (base t)) (iblk m c 1 (base t)) (iblk m c 3 (base t))

/-- The invariant before point `n`: the scratch holds what the point before left (before the first point: anything). -/
def held (c : Dev nD) : (n : ℕ) → n ≤ cfg0.N → sProp 𝕄
  | 0, _ => Pipeline.ΦA spec0 c
  | n + 1, hn => iprop(iprop(owns (c : Thread nD τ) scratch fullShare (rowsAt m c ⟨n, hn⟩)) ∗ (∃ r, prngReg c r))

theorem held_pos (c : Dev nD) (n : ℕ) (h : n ≤ cfg0.N) (hz : n ≠ 0) :
    held m c n h = iprop(iprop(owns (c : Thread nD τ) scratch fullShare (rowsAt m c ⟨n - 1, by omega⟩))
      ∗ (∃ r, prngReg c r)) := by
  cases n with
  | zero => exact absurd rfl hz
  | succ n => rfl

/-- The scratch at anything is a consequence of the invariant at every point. -/
theorem held_any (c : Dev nD) (n : ℕ) (h : n ≤ cfg0.N) : held m c n h ⊢ Pipeline.ΦA spec0 c := by
  cases n with
  | zero => exact Idealize.SL.BI.Entails.refl _
  | succ n =>
    rw [rest_eq]
    show iprop(iprop(owns (c : Thread nD τ) scratch fullShare (rowsAt m c ⟨n, h⟩)) ∗ (∃ r, prngReg c r)) ⊢ _
    iintro ⟨HS, Hg⟩
    isplitl [HS]
    · iexists _; iexact HS
    iexact Hg

/-- The pipeline's proof data: the arrays as the region finds them, the inputs' blocks left in place, the outputs and the
    scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => extraAt m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_start (c : Dev nD) (t : Fin cfg0.N) :
    (dats m 0 c).Φ t.castSucc = held m c t.val (Nat.le_of_lt t.isLt) := by
  dsimp only [dats]; exact Pipeline.Dat.Φ_castSucc (held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = extraAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The extra output is idle past the first point of a row block. -/
theorem idle_iff (t : Fin cfg0.N) : cfg0.idle 5 (cfg0.grid.coords t) = true ↔ ¬ t.val % 5 = 0 := by
  rw [← branch_iff t]
  show (!(k0_cond1 (grid0.coords t) == 1#1)) = true ↔ _
  simp

/-- The extra output's buffer holds nothing of the row block before its first point only. -/
theorem fresh_eq (t : Fin cfg0.N) : cfg0.fresh 5 t.val = decide (t.val % 5 = 0) :=
  cfg0.fresh_tab 5 (fun n => decide (n % 5 = 0)) rfl (fun t => by
    have hf : (cfg0.win 5).flush t = decide (t.val % 5 = 4) := Bool.eq_iff_iff.mpr ((flush0_5 t).trans decide_eq_true_iff.symm)
    have hi : cfg0.idle 5 (cfg0.grid.coords t) = decide (¬ t.val % 5 = 0) :=
      Bool.eq_iff_iff.mpr ((idle_iff t).trans decide_eq_true_iff.symm)
    rw [hf, hi]
    have e : ∀ n : ℕ, decide ((n + 1) % 5 = 0) = (decide (n % 5 = 4) || (decide (¬ n % 5 = 0) && decide (n % 5 = 0))) := fun n => by
      rw [Bool.eq_iff_iff]; simp only [Bool.or_eq_true, Bool.and_eq_true, decide_eq_true_eq]; omega
    exact e t.val) t.val (Nat.le_of_lt t.isLt)

theorem extra_kept (c : Dev nD) (t : Fin cfg0.N) (h : ¬ t.val % 5 = 0) :
    extraAt m c ⟨t.val - 1, Nat.lt_of_le_of_lt (Nat.sub_le _ _) t.isLt⟩ = extraAt m c t := by
  unfold extraAt; rw [base_prev t h]

/-- Past the first point of a row block the extra output's buffer holds what that point stored. -/
theorem before0_5 (c : Dev nD) (t : Fin cfg0.N) (h : ¬ t.val % 5 = 0) (d) :
    (dats m 0 c).before 5 t d = extraAt m c t := by
  rw [(dats m 0 c).before_out_traj 5 rfl (fun _ _ => rfl) (fun t ht hi _ => by
      rw [after0_5, after0_5]; exact (extra_kept m c t ((idle_iff t).mp hi)).symm) t.val t rfl d,
    fresh_eq, if_neg (by simpa using h), after0_5]
  exact extra_kept m c t h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

/-- what it leaves in the extra output's buffer, as the configuration asks for it, -/
def extraPost (c : Dev nD) (t : Fin cfg0.N) : sProp 𝕄 :=
  match cfg0.idle 5 (cfg0.grid.coords t) with
  | true =>
    match (cfg0.win 5).flush t with
    | false => iprop(∃ d, owns (c : Thread nD τ) (buf5 t) fullShare ((dats m 0 c).before 5 t d))
    | true => owns (c : Thread nD τ) (buf5 t) fullShare ((dats m 0 c).after 5 t)
  | false => owns (c : Thread nD τ) (buf5 t) fullShare ((dats m 0 c).after 5 t)

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ extraPost m c t)

theorem extra_post (c : Dev nD) (t : Fin cfg0.N) :
    owns (c : Thread nD τ) (buf5 t) fullShare (extraAt m c t) ⊢ extraPost m c t := by
  unfold extraPost
  rcases hi : cfg0.idle 5 (cfg0.grid.coords t) with _ | _
  · dsimp only; rw [after0_5]
  · rcases (cfg0.win 5).flush t with _ | _
    · dsimp only
      iintro H
      iexists (extraAt m c t)
      rw [before0_5 m c t ((idle_iff t).mp hi)]
      iexact H
    · dsimp only; rw [after0_5]

set_option maxHeartbeats 1600000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, held_start m c t]
  rw [show (dats m 0 c).Φ t.succ = iprop(iprop(owns (c : Thread nD τ) scratch fullShare (rowsAt m c t))
    ∗ (∃ r, prngReg c r)) from rfl]
  by_cases h : t.val % 5 = 0
  · have hx := extra_post m c t
    rw [extraAt, base_first t h] at hx
    rw [outAt, rowsAt, base_first t h]
    have ha := held_any m c t.val (Nat.le_of_lt t.isLt)
    rw [rest_eq] at ha
    iintro ⟨HS, Ho, ⟨%d0, H0⟩, ⟨%d1, H1⟩, ⟨%d2, H2⟩, ⟨%d3, H3⟩, ⟨%d4, H4⟩, ⟨%d5, H5⟩⟩
    ihave HS := ha $$ HS
    icases HS with ⟨HS, Hg⟩
    iapply (first_triple c (grid0.coords t) _ _ _ _ _ _ _ _ _ _ _ _ _ _ (iblk m c 0 t) (iblk m c 1 t) (iblk m c 2 t)
      (iblk m c 3 t) ((branch_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hx; iexact H5
  · have hx := extra_post m c t
    have hr : rowsAt m c ⟨t.val - 1, Nat.lt_of_le_of_lt (Nat.sub_le _ _) t.isLt⟩ = rowsAt m c t := by
      unfold rowsAt; rw [base_prev t h]
    simp only [before0_5 m c t h]
    rw [held_pos m c t.val _ (by omega), hr, outAt]
    iintro ⟨⟨HS, Hg⟩, Ho, ⟨%d0, H0⟩, ⟨%d1, H1⟩, ⟨%d2, H2⟩, ⟨%d3, H3⟩, ⟨%d4, H4⟩, ⟨%d5, H5⟩⟩
    iapply (later_triple c (grid0.coords t) _ _ _ _ _ _ _ _ _ _ _ _ _ _ (iblk m c 0 t) (iblk m c 1 t) (iblk m c 2 t)
      (iblk m c 3 t) (fun hb => h ((branch_iff t).mp hb)) (extraAt m c t) (rowsAt m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hx; iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run and the frame -/

theorem launch_in (c : Dev nD) : Pipeline.ΦA spec0 c ⊢ (dats m 0 c).Φ 0 := by
  rw [show (dats m 0 c).Φ 0 = Pipeline.ΦA spec0 c from rfl]

theorem launch_out (c : Dev nD) : (dats m 0 c).Φ (Fin.last cfg0.N) ⊢ Pipeline.ΦA spec0 c :=
  (show held m c cfg0.N (Nat.le_refl _) ⊢ Pipeline.ΦA spec0 c from held_any m c _ _)

set_option backward.isDefEq.respectTransparency.types false in
/-- Every execution of `@main` ends with the arrays at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := launch_in m)
    (hout := launch_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_main_quiescent m ρ))

end Cert.InKernelIdeal.Gen

end
-- ==== Proof.OddIn.FrameIdeal.lean ====
/-
  The frame of the odd layers' in-projection's idealized kernel: its grid has 32 row blocks of 4 column blocks each, point
  `t = 4·i + j`. At `j = 0` the body normalizes the row block into its scratch and stores the projection on the extra
  columns; at every point it stores the projection of the scratch on the column block `j`. So after point `t` the scratch
  and the extra output hold what the row block's first point, `base t`, stored.
-/
module

public import proofs.«01_k».proof.Proof.Gen.OddInKernelIdeal.Frame
public import proofs.«01_k».proof.Proof.Gen.OddInKernelIdeal.Skeleton
public import Idealize.ShloMosaic.Lib.Pipeline.TableIdle
public import Idealize.ShloMosaic.Lib.VecWindow
public import Idealize.ShloMosaic.Lib.Claim

@[expose] public section

set_option maxRecDepth 16384

noncomputable section

namespace Cert.OddInKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem points : cfg0.N = 128 := N_0

/-- The first point of `t`'s row block. -/
def base (t : Fin cfg0.N) : Fin cfg0.N := ⟨4 * (t.val / 4), by have := t.isLt; omega⟩

theorem base_first (t : Fin cfg0.N) (h : t.val % 4 = 0) : base t = t := Fin.ext (by simp only [base]; omega)

theorem base_prev (t : Fin cfg0.N) (h : ¬ t.val % 4 = 0) :
    base ⟨t.val - 1, Nat.lt_of_le_of_lt (Nat.sub_le _ _) t.isLt⟩ = base t := Fin.ext (by simp only [base]; omega)

/-- The branch of the body is taken at the first point of a row block. -/
theorem branch_iff (t : Fin cfg0.N) : k0_cond1 (grid0.coords t) = 1#1 ↔ t.val % 4 = 0 := by
  have ht : t.val < 128 := Nat.lt_of_lt_of_eq t.isLt N_0
  have e1 : (grid0.coords t 1).val = t.val / 1 % 4 := Pipeline.Grid.coords_val t 1 (by decide) rfl
  simp only [k0_cond1, e1]
  word_cmp

/-! ## The buffers -/

abbrev buf0 (t : Fin cfg0.N) : Memref sig .tc .vmem S512x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S2048x1024 .bf16 := win0_2.stage (cfg0.slots t 2)
abbrev buf3 (t : Fin cfg0.N) : Memref sig .tc .vmem S2048x128 .bf16 := win0_3.stage (cfg0.slots t 3)
abbrev buf4 (t : Fin cfg0.N) : Memref sig .tc .vmem S512x1024 .bf16 := win0_4.stage (cfg0.slots t 4)
abbrev buf5 (t : Fin cfg0.N) : Memref sig .tc .vmem S512x128 .f32 := win0_5.stage (cfg0.slots t 5)
abbrev scratch : Memref sig .tc .vmem S512x2048 .bf16 := Memref.whole cc0_scratch0

/-- What the launch hands the kernel beside its windows: the scratch and the generator's register. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The body -/

section Body

variable (c : Dev nD) (i : grid0.Coords)
  (a0 : Memref sig .tc .vmem S512x2048 .f32) (h0 : a0.IsWhole) (a1 : Memref sig .tc .vmem S1x2048 .f32) (h1 : a1.IsWhole)
  (a2 : Memref sig .tc .vmem S2048x1024 .bf16) (h2 : a2.IsWhole) (a3 : Memref sig .tc .vmem S2048x128 .bf16) (h3 : a3.IsWhole)
  (a4 : Memref sig .tc .vmem S512x1024 .bf16) (h4 : a4.IsWhole) (a5 : Memref sig .tc .vmem S512x128 .f32) (h5 : a5.IsWhole)
  (a6 : Memref sig .tc .vmem S512x2048 .bf16) (h6 : a6.IsWhole)
  (x0 : Vec F S512x2048 .f32) (x1 : Vec F S1x2048 .f32) (x2 : Vec F S2048x1024 .bf16) (x3 : Vec F S2048x128 .bf16)

/-- At the first point of a row block: the normalized rows go to the scratch, their two projections to the outputs. -/
theorem first_triple (hc : k0_cond1 i = 1#1) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ (∃ d, owns (c : Thread nD τ) a5 fullShare d)
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k0_pay4 (k0_pay2 x0 x1) x2)
            ∗ owns (c : Thread nD τ) a5 fullShare (k0_pay3 x0 x1 x3)
            ∗ owns (c : Thread nD τ) a6 fullShare (k0_pay2 x0 x1)) -∗ K ⟨⟩))
      ⊢ wp frame (wpE (defs₀ (F := F)) Variants.none c none) E
          (cc0_norm_matmul i a0 h0 a1 h1 a2 h2 a3 h3 a4 h4 a5 h5 a6 h6) K := by
  simp only [cc0_norm_matmul_eq_skeleton]; unfold cc0_norm_matmul_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := h0.eq_unread hf0; obtain rfl := h1.eq_unread hf1; obtain rfl := h2.eq_unread hf2; obtain rfl := h3.eq_unread hf3
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    delta first_triple.sl.v3 first_triple.sl.H6_1
    rw [View.readCov_full, View.readAt_full, View.readAt_full, View.readAt_full, h0.read_unread, h1.read_unread, h2.read_unread]
  isplitl [H5]
  · iexists _; isplitr
    swap; · iexact H5
    ipureintro
    refine (View.read_writes_full _ _ _ _ _).trans ?_
    rw [View.readAt_full, View.readAt_full, View.readAt_full, h0.read_unread, h1.read_unread, h3.read_unread]
  iexists _; isplitr
  swap; · iexact H6
  ipureintro
  refine (View.read_writes_full _ _ _ _ _).trans ?_
  rw [View.readAt_full, View.readAt_full, h0.read_unread, h1.read_unread]

/-- At the other points of a row block: the scratch and the extra output stay as they are, and the scratch's projection on
    the point's columns goes to the output. -/
theorem later_triple (hc : ¬ k0_cond1 i = 1#1) (x5 : Vec F S512x128 .f32) (x6 : Vec F S512x2048 .bf16) (E : Set ℕ)
    (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) a4 fullShare d) ∗ owns (c : Thread nD τ) a5 fullShare x5
        ∗ owns (c : Thread nD τ) a6 fullShare x6
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare (k0_pay4 x6 x2)
            ∗ owns (c : Thread nD τ) a5 fullShare x5
            ∗ owns (c : Thread nD τ) a6 fullShare x6) -∗ K ⟨⟩))
      ⊢ wp frame (wpE (defs₀ (F := F)) Variants.none c none) E
          (cc0_norm_matmul i a0 h0 a1 h1 a2 h2 a3 h3 a4 h4 a5 h5 a6 h6) K := by
  simp only [cc0_norm_matmul_eq_skeleton]; unfold cc0_norm_matmul_skel
  unfold owns
  iintro ⟨H0, H1, ⟨%f2, %hf2, H2⟩, H3, ⟨%d4, %f4, -, H4⟩, H5, ⟨%f6, %hf6, H6⟩, Hk⟩
  obtain rfl := h2.eq_unread hf2; obtain rfl := h6.eq_unread hf6
  sl_exec (disch := first | sl_exact hc)
  sl_step
  iapply Hk
  isplitl [H0]; · iexact H0
  isplitl [H1]; · iexact H1
  isplitl [H2]
  · iexists _; isplitr; · ipureintro; exact h2.read_unread _
    iexact H2
  isplitl [H3]; · iexact H3
  isplitl [H4]
  · iexists _; isplitr
    swap; · iexact H4
    ipureintro
    refine (View.read_writes_full _ _ _ _ _).trans ?_
    rw [View.readAt_full, View.readAt_full, h2.read_unread, h6.read_unread]
  isplitl [H5]; · iexact H5
  iexists _; isplitr; · ipureintro; exact h6.read_unread _
  iexact H6

end Body

/-! ## What the buffers hold after each point -/

/-- What the body leaves in the scratch: the normalized rows of the row block. -/
def rowsAt (c : Dev nD) (t : Fin cfg0.N) : Vec F S512x2048 .bf16 := k0_pay2 (iblk m c 0 (base t)) (iblk m c 1 (base t))

/-- What it leaves in the output's buffer: their projection on the column block. -/
def outAt (c : Dev nD) (t : Fin cfg0.N) : Vec F S512x1024 .bf16 := k0_pay4 (rowsAt m c t) (iblk m c 2 t)

/-- What it leaves in the extra output's buffer: their projection on the extra columns. -/
def extraAt (c : Dev nD) (t : Fin cfg0.N) : Vec F S512x128 .f32 :=
  k0_pay3 (iblk m c 0 (base t)) (iblk m c 1 (base t)) (iblk m c 3 (base t))

/-- The invariant before point `n`: the scratch holds what the point before left (before the first point: anything). -/
def held (c : Dev nD) : (n : ℕ) → n ≤ cfg0.N → sProp 𝕄
  | 0, _ => Pipeline.ΦA spec0 c
  | n + 1, hn => iprop(iprop(owns (c : Thread nD τ) scratch fullShare (rowsAt m c ⟨n, hn⟩)) ∗ (∃ r, prngReg c r))

theorem held_pos (c : Dev nD) (n : ℕ) (h : n ≤ cfg0.N) (hz : n ≠ 0) :
    held m c n h = iprop(iprop(owns (c : Thread nD τ) scratch fullShare (rowsAt m c ⟨n - 1, by omega⟩))
      ∗ (∃ r, prngReg c r)) := by
  cases n with
  | zero => exact absurd rfl hz
  | succ n => rfl

/-- The scratch at anything is a consequence of the invariant at every point. -/
theorem held_any (c : Dev nD) (n : ℕ) (h : n ≤ cfg0.N) : held m c n h ⊢ Pipeline.ΦA spec0 c := by
  cases n with
  | zero => exact Idealize.SL.BI.Entails.refl _
  | succ n =>
    rw [rest_eq]
    show iprop(iprop(owns (c : Thread nD τ) scratch fullShare (rowsAt m c ⟨n, h⟩)) ∗ (∃ r, prngReg c r)) ⊢ _
    iintro ⟨HS, Hg⟩
    isplitl [HS]
    · iexists _; iexact HS
    iexact Hg

/-- The pipeline's proof data: the arrays as the region finds them, the inputs' blocks left in place, the outputs and the
    scratch as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => extraAt m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_start (c : Dev nD) (t : Fin cfg0.N) :
    (dats m 0 c).Φ t.castSucc = held m c t.val (Nat.le_of_lt t.isLt) := by
  dsimp only [dats]; exact Pipeline.Dat.Φ_castSucc (held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = extraAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The extra output is idle past the first point of a row block. -/
theorem idle_iff (t : Fin cfg0.N) : cfg0.idle 5 (cfg0.grid.coords t) = true ↔ ¬ t.val % 4 = 0 := by
  rw [← branch_iff t]
  show (!(k0_cond1 (grid0.coords t) == 1#1)) = true ↔ _
  simp

/-- The extra output's buffer holds nothing of the row block before its first point only. -/
theorem fresh_eq (t : Fin cfg0.N) : cfg0.fresh 5 t.val = decide (t.val % 4 = 0) :=
  cfg0.fresh_tab 5 (fun n => decide (n % 4 = 0)) rfl (fun t => by
    have hf : (cfg0.win 5).flush t = decide (t.val % 4 = 3) := Bool.eq_iff_iff.mpr ((flush0_5 t).trans decide_eq_true_iff.symm)
    have hi : cfg0.idle 5 (cfg0.grid.coords t) = decide (¬ t.val % 4 = 0) :=
      Bool.eq_iff_iff.mpr ((idle_iff t).trans decide_eq_true_iff.symm)
    rw [hf, hi]
    have e : ∀ n : ℕ, decide ((n + 1) % 4 = 0) = (decide (n % 4 = 3) || (decide (¬ n % 4 = 0) && decide (n % 4 = 0))) := fun n => by
      rw [Bool.eq_iff_iff]; simp only [Bool.or_eq_true, Bool.and_eq_true, decide_eq_true_eq]; omega
    exact e t.val) t.val (Nat.le_of_lt t.isLt)

theorem extra_kept (c : Dev nD) (t : Fin cfg0.N) (h : ¬ t.val % 4 = 0) :
    extraAt m c ⟨t.val - 1, Nat.lt_of_le_of_lt (Nat.sub_le _ _) t.isLt⟩ = extraAt m c t := by
  unfold extraAt; rw [base_prev t h]

/-- Past the first point of a row block the extra output's buffer holds what that point stored. -/
theorem before0_5 (c : Dev nD) (t : Fin cfg0.N) (h : ¬ t.val % 4 = 0) (d) :
    (dats m 0 c).before 5 t d = extraAt m c t := by
  rw [(dats m 0 c).before_out_traj 5 rfl (fun _ _ => rfl) (fun t ht hi _ => by
      rw [after0_5, after0_5]; exact (extra_kept m c t ((idle_iff t).mp hi)).symm) t.val t rfl d,
    fresh_eq, if_neg (by simpa using h), after0_5]
  exact extra_kept m c t h

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

/-- what it leaves in the extra output's buffer, as the configuration asks for it, -/
def extraPost (c : Dev nD) (t : Fin cfg0.N) : sProp 𝕄 :=
  match cfg0.idle 5 (cfg0.grid.coords t) with
  | true =>
    match (cfg0.win 5).flush t with
    | false => iprop(∃ d, owns (c : Thread nD τ) (buf5 t) fullShare ((dats m 0 c).before 5 t d))
    | true => owns (c : Thread nD τ) (buf5 t) fullShare ((dats m 0 c).after 5 t)
  | false => owns (c : Thread nD τ) (buf5 t) fullShare ((dats m 0 c).after 5 t)

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ extraPost m c t)

theorem extra_post (c : Dev nD) (t : Fin cfg0.N) :
    owns (c : Thread nD τ) (buf5 t) fullShare (extraAt m c t) ⊢ extraPost m c t := by
  unfold extraPost
  rcases hi : cfg0.idle 5 (cfg0.grid.coords t) with _ | _
  · dsimp only; rw [after0_5]
  · rcases (cfg0.win 5).flush t with _ | _
    · dsimp only
      iintro H
      iexists (extraAt m c t)
      rw [before0_5 m c t ((idle_iff t).mp hi)]
      iexact H
    · dsimp only; rw [after0_5]

set_option maxHeartbeats 1280000 in
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, held_start m c t]
  rw [show (dats m 0 c).Φ t.succ = iprop(iprop(owns (c : Thread nD τ) scratch fullShare (rowsAt m c t))
    ∗ (∃ r, prngReg c r)) from rfl]
  by_cases h : t.val % 4 = 0
  · have hx := extra_post m c t
    rw [extraAt, base_first t h] at hx
    rw [outAt, rowsAt, base_first t h]
    have ha := held_any m c t.val (Nat.le_of_lt t.isLt)
    rw [rest_eq] at ha
    iintro ⟨HS, Ho, ⟨%d0, H0⟩, ⟨%d1, H1⟩, ⟨%d2, H2⟩, ⟨%d3, H3⟩, ⟨%d4, H4⟩, ⟨%d5, H5⟩⟩
    ihave HS := ha $$ HS
    icases HS with ⟨HS, Hg⟩
    iapply (first_triple c (grid0.coords t) _ _ _ _ _ _ _ _ _ _ _ _ _ _ (iblk m c 0 t) (iblk m c 1 t) (iblk m c 2 t)
      (iblk m c 3 t) ((branch_iff t).mpr h) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hx; iexact H5
  · have hx := extra_post m c t
    have hr : rowsAt m c ⟨t.val - 1, Nat.lt_of_le_of_lt (Nat.sub_le _ _) t.isLt⟩ = rowsAt m c t := by
      unfold rowsAt; rw [base_prev t h]
    simp only [before0_5 m c t h]
    rw [held_pos m c t.val _ (by omega), hr, outAt]
    iintro ⟨⟨HS, Hg⟩, Ho, ⟨%d0, H0⟩, ⟨%d1, H1⟩, ⟨%d2, H2⟩, ⟨%d3, H3⟩, ⟨%d4, H4⟩, ⟨%d5, H5⟩⟩
    iapply (later_triple c (grid0.coords t) _ _ _ _ _ _ _ _ _ _ _ _ _ _ (iblk m c 0 t) (iblk m c 1 t) (iblk m c 2 t)
      (iblk m c 3 t) (fun hb => h ((branch_iff t).mp hb)) (extraAt m c t) (rowsAt m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hx; iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run and the frame -/

theorem launch_in (c : Dev nD) : Pipeline.ΦA spec0 c ⊢ (dats m 0 c).Φ 0 := by
  rw [show (dats m 0 c).Φ 0 = Pipeline.ΦA spec0 c from rfl]

theorem launch_out (c : Dev nD) : (dats m 0 c).Φ (Fin.last cfg0.N) ⊢ Pipeline.ΦA spec0 c :=
  (show held m c cfg0.N (Nat.le_refl _) ⊢ Pipeline.ΦA spec0 c from held_any m c _ _)

set_option backward.isDefEq.respectTransparency.types false in
/-- Every execution of `@main` ends with the arrays at what the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := launch_in m)
    (hout := launch_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ))
    ((θ_run defs _ _).mono (fun _ h => h.2) (run_main_quiescent m ρ))

end Cert.OddInKernelIdeal.Gen

end
-- ==== Proof.Ffn.Math.lean ====
module

public import Idealize.ShloMosaic.Lib.Pipeline.ValueKit
public import Idealize.ShloMosaic.Lib.Claim
public import Idealize.ShloMosaic.Lib.Pointwise

@[expose] public section

noncomputable section

open Idealize.ShloMosaic
open scoped BigOperators

/-!
What the feed-forward layer computes, one token at a time, over the extended reals. A token is a row of 2048 numbers.
-/

namespace Cert.Proof.Ffn

/-- The normalisation's scale of a row: one over the root of the mean square plus the small constant. -/
def scale (x : Fin 2048 → EReal) : EReal :=
  Ideal.rsqrt (Ideal.div (∑ d, x d * x d) (Ideal.ofBits .f32 0x45000000#32) + Ideal.ofBits .f32 0x358637BD#32)

/-- A row normalised and weighted by `g`. -/
def norm (x g : Fin 2048 → EReal) (d : Fin 2048) : EReal := x d * scale x * g d

/-- One hidden number of a normalised row: its product with a column, cut at zero, squared. -/
def hidden (h col : Fin 2048 → EReal) : EReal := max (∑ d, h d * col d) 0 * max (∑ d, h d * col d) 0

/-- The layer: the row plus the hidden numbers' product with the second weight. -/
def row (x g : Fin 2048 → EReal) (w1 : Fin 2048 → Fin 8192 → EReal) (w2 : Fin 8192 → Fin 2048 → EReal) (q : Fin 2048) : EReal :=
  x q + ∑ a, hidden (norm x g) (fun d => w1 d a) * w2 a q

end Cert.Proof.Ffn

end
-- ==== Proof.In.Value.lean ====
/- The normalised in-projection over its arrays: the blocks the kernel writes are the product's first 5120 columns, and
   the small array beside them holds the last 16 columns, padded with zeros. -/
module

public import proofs.«01_k».proof.Proof.In.FrameIdeal
public import proofs.«01_k».proof.Proof.Gen.InReferenceIdeal.Run
public import proofs.«01_k».proof.Proof.Ffn.Math
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Proof.InValue

open Cert.InKernelIdeal Cert.InKernelIdeal.Gen

variable (m : (ℓ : Loc nD τ sig) → Buf (Elt Ideal) ℓ)

/-- The product of the normalised row `r` with the weight's column `a`. -/
def PROD (x : FVec Ideal S16384x2048 .f32) (g : FVec Ideal S2048 .f32) (w : FVec Ideal S2048x5136 .f32)
    (r : Fin 16384) (a : Fin 5136) : EReal :=
  ∑ d : Fin 2048, Ffn.norm (fun d => x (ix2 r d)) (fun d => g (ix1 d)) d * w (ix2 d a)

/-- The first 5120 columns. -/
def MAIN (x : FVec Ideal S16384x2048 .f32) (g : FVec Ideal S2048 .f32) (w : FVec Ideal S2048x5136 .f32) :
    FVec Ideal S16384x5120 .f32 :=
  fun y => PROD x g w (y 0) (Fin.castLE (by decide) (y 1 : Fin 5120))

/-- The last 16 columns, followed by 112 columns of zeros. -/
def EXTRA (x : FVec Ideal S16384x2048 .f32) (g : FVec Ideal S2048 .f32) (w : FVec Ideal S2048x5136 .f32) :
    FVec Ideal S16384x128 .f32 :=
  fun y => if h : (y 1 : Fin 128).val < 16 then PROD x g w (y 0) ⟨5120 + (y 1 : Fin 128).val, by omega⟩ else 0

/-- Every window's block index at a point. -/
theorem idx : ∀ t : Fin cfg0.N, win0_0.index t = ![t.val / 5, 0] ∧ win0_1.index t = ![0, 0] ∧
    win0_2.index t = ![0, t.val % 5] ∧ win0_3.index t = ![0, 0] ∧ win0_4.index t = ![t.val / 5, t.val % 5] ∧
    win0_5.index t = ![t.val / 5, 0] :=
  (by decide +kernel : ∀ t : Fin grid0.N, _)

/-- The row of the arrays that row `r` of point `t`'s block is. -/
def rowOf (t : Fin cfg0.N) (r : Fin 512) : Fin 16384 :=
  ⟨t.val / 5 * 512 + r.val, by have := t.isLt; have := points; omega⟩

theorem rowOf_base (t : Fin cfg0.N) (r : Fin 512) : rowOf (base t) r = rowOf t r := by
  simp only [rowOf, base, Fin.mk.injEq]; omega

theorem x_entry (c : Dev nD) (t : Fin cfg0.N) (r : Fin 512) (d : Fin 2048) :
    (iblk m c 0 t : FVec Ideal S512x2048 .f32) (ix2 r d) = m ((c : Thread nD τ).loc main_arg0) (ix2 (rowOf t r) d) := by
  blk_point [iblk, V, rowOf, idx t]

/-- The norm's weight as the call finds it. -/
theorem norm_read (c : Dev nD) : (V m c main_v5 : FVec Ideal S1x2048 .f32)
    = shapeCast S1x2048 (m ((c : Thread nD τ).loc main_arg1) : FVec Ideal S2048 .f32) shapeCasts_S2048_S1x2048 := by
  delta V
  simp only [hostOps0, hostOps0_1, hostOps0_2, List.flatten_cons, List.flatten_nil, List.append_nil, List.cons_append, List.nil_append]
  after_results
  rfl

/-- The wide part of the weight as the call finds it. -/
theorem weight_read (c : Dev nD) : (V m c main_v1 : FVec Ideal S2048x5120 .bf16)
    = truncf .bf16 (extractStridedSlice S2048x5120 ![0, 0] (m ((c : Thread nD τ).loc main_arg2) : FVec Ideal S2048x5136 .f32)
        slices_S2048x5136_S2048x5120_0_0 : FVec Ideal S2048x5120 .f32) bitsLt_bf16_f32 := by
  delta V
  simp only [hostOps0, hostOps0_1, hostOps0_2, List.flatten_cons, List.flatten_nil, List.append_nil, List.cons_append, List.nil_append]
  after_results

/-- The weight's last 16 columns, padded, as the call finds them. -/
theorem extra_read (c : Dev nD) : (V m c main_v4 : FVec Ideal S2048x128 .bf16)
    = truncf .bf16 (pad S2048x128 ![0, 0] ![0, 112] ![0, 0]
        (extractStridedSlice S2048x16 ![0, 5120] (m ((c : Thread nD τ).loc main_arg2) : FVec Ideal S2048x5136 .f32)
          slices_S2048x5136_S2048x16_0_5120)
        (sitofp .f32 (constantI S_ 32 0#32)) pads_S2048x16_S2048x128_000_01120 h_S_ : FVec Ideal S2048x128 .f32) bitsLt_bf16_f32 := by
  delta V
  simp only [hostOps0, hostOps0_1, hostOps0_2, List.flatten_cons, List.flatten_nil, List.append_nil, List.cons_append, List.nil_append]
  after_results
  rfl

theorem g_entry (c : Dev nD) (t : Fin cfg0.N) (d : Fin 2048) :
    (iblk m c 1 t : FVec Ideal S1x2048 .f32) (ix2 0 d) = m ((c : Thread nD τ).loc main_arg1) (ix1 d) := by
  blk_simp [iblk, idx t]
  rw [norm_read]
  pointwise
  all_goals blk_ext [idx t]

theorem w_entry (c : Dev nD) (t : Fin cfg0.N) (d : Fin 2048) (k : Fin 1024) (a : Fin 5136)
    (h : a.val = t.val % 5 * 1024 + k.val) :
    (iblk m c 2 t : FVec Ideal S2048x1024 .bf16) (ix2 d k) = m ((c : Thread nD τ).loc main_arg2) (ix2 d a) := by
  obtain ⟨a, ha⟩ := a
  subst h
  have e : (win0_2.blk t).view.emb (ix2 d k) = ix2 d ⟨t.val % 5 * 1024 + k.val, by omega⟩ := by blk_ext [idx t]
  show (V m c main_v1 : FVec Ideal S2048x5120 .bf16) ((win0_2.blk t).view.emb (ix2 d k)) = _
  rw [e, weight_read]
  pointwise

theorem we_entry (c : Dev nD) (t : Fin cfg0.N) (d : Fin 2048) (k : Fin 128) :
    (iblk m c 3 t : FVec Ideal S2048x128 .bf16) (ix2 d k)
      = if h : k.val < 16 then m ((c : Thread nD τ).loc main_arg2) (ix2 d ⟨5120 + k.val, by omega⟩) else (0 : EReal) := by
  have e : (win0_3.blk t).view.emb (ix2 d k) = ix2 d k := by blk_ext [idx t]
  show (V m c main_v4 : FVec Ideal S2048x128 .bf16) ((win0_3.blk t).view.emb (ix2 d k)) = _
  rw [e, extra_read]
  pointwise
  by_cases h : k.val < 16
  · rw [dif_pos h, dif_pos h]
  · rw [dif_neg h, dif_neg h]
    exact show ((((0#32 : BitVec 32).toInt : ℝ)) : EReal) = 0 by simp

/-- The normalised block, at an entry. -/
theorem norm_entry (c : Dev nD) (t : Fin cfg0.N) (r : Fin 512) (d : Fin 2048) :
    k0_pay1 (F := Ideal) (iblk m c 0 (base t)) (iblk m c 1 (base t)) (ix2 r d)
      = Ffn.norm (fun d => m ((c : Thread nD τ).loc main_arg0) (ix2 (rowOf t r) d))
          (fun d => m ((c : Thread nD τ).loc main_arg1) (ix1 d)) d := by
  have h := x_entry m c (base t) r
  have hg := g_entry m c (base t)
  rw [← rowOf_base]
  pointwise [k0_pay1]
  simp only [Ffn.norm, Ffn.scale, h, hg]

/-- The rows kept for a row block's points, at an entry. -/
theorem rows_entry (c : Dev nD) (t : Fin cfg0.N) (r : Fin 512) (d : Fin 2048) :
    rowsAt m c t (ix2 r d)
      = Ffn.norm (fun d => m ((c : Thread nD τ).loc main_arg0) (ix2 (rowOf t r) d))
          (fun d => m ((c : Thread nD τ).loc main_arg1) (ix1 d)) d := by
  refine Eq.trans ?_ (norm_entry m c t r d)
  pointwise [rowsAt, k0_pay2]

/-- A block of the wide result. -/
theorem point (c : Dev nD) (t : Fin cfg0.N) (y : S512x1024.Idx) :
    outAt m c t y = MAIN (m ((c : Thread nD τ).loc main_arg0)) (m ((c : Thread nD τ).loc main_arg1))
      (m ((c : Thread nD τ).loc main_arg2)) (((cfg0.win 4).blk t).view.emb y) := by
  obtain ⟨r, q, rfl⟩ : ∃ r q, y = ix2 r q := ⟨_, _, (ix2_eta y).symm⟩
  have he : ((cfg0.win 4).blk t).view.emb (ix2 r q) = ix2 (rowOf t r) ⟨t.val % 5 * 1024 + q.val, by omega⟩ := by
    blk_ext [rowOf, idx t]
  have hw := fun d => w_entry m c t d q ⟨t.val % 5 * 1024 + q.val, by omega⟩ rfl
  have hx := rows_entry m c t r
  rw [he]
  show _ = PROD _ _ _ (rowOf t r) ⟨t.val % 5 * 1024 + q.val, _⟩
  unfold outAt
  generalize rowsAt m c t = xn at hx ⊢
  pointwise [k0_pay4]
  simp only [PROD, hx, hw]

/-- A block of the small result. -/
theorem extra_point (c : Dev nD) (t : Fin cfg0.N) (y : S512x128.Idx) :
    extraAt m c t y = EXTRA (m ((c : Thread nD τ).loc main_arg0)) (m ((c : Thread nD τ).loc main_arg1))
      (m ((c : Thread nD τ).loc main_arg2)) (((cfg0.win 5).blk t).view.emb y) := by
  obtain ⟨r, q, rfl⟩ : ∃ r q, y = ix2 r q := ⟨_, _, (ix2_eta y).symm⟩
  have he : ((cfg0.win 5).blk t).view.emb (ix2 r q) = ix2 (rowOf t r) q := by
    blk_ext [rowOf, idx t]
  have hw := fun d => we_entry m c (base t) d q
  have hx := norm_entry m c t r
  rw [he]
  show _ = if h : q.val < 16 then PROD _ _ _ (rowOf t r) ⟨5120 + q.val, _⟩ else 0
  unfold extraAt k0_pay3
  generalize k0_pay1 (F := Ideal) (iblk m c 0 (base t)) (iblk m c 1 (base t)) = xn at hx ⊢
  pointwise
  simp only [hx, hw]
  by_cases h : q.val < 16
  · simp only [dif_pos h, PROD]
  · simp only [dif_neg h]
    exact Finset.sum_eq_zero (M := EReal) fun d _ => mul_zero (M₀ := EReal) _

/-- The wide result after the run. -/
theorem final_main (c : Dev nD) : (dats m 0 c).arrAt 4 cfg0.N
    = MAIN (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

/-- The small result after the run. -/
theorem final_extra (c : Dev nD) : (dats m 0 c).arrAt 5 cfg0.N
    = EXTRA (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact extra_point m c t y

/-- The run of the kernel: both results, and the arguments unchanged. -/
theorem run_blocks (ρ : Dev nD → PrngReg) :
    θ_run defs (onTc (τ := τ) (main (F := Ideal))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

/-- The reference's product of the normalised rows with the whole weight. -/
abbrev HOST (x : FVec Ideal S16384x2048 .f32) (g : FVec Ideal S2048 .f32) (w : FVec Ideal S2048x5136 .f32) :
    FVec Ideal Cert.InReferenceIdeal.S16384x5136 .f32 :=
  Host.dotGeneral Cert.InReferenceIdeal.dot_S16384x2048_S2048x5136_S16384x5136_1_0_0_1_n_n none
    (mulf (mulf x (broadcastInDim Cert.InReferenceIdeal.S16384x2048 ![0, 1] Cert.InReferenceIdeal.Gen.bcast_S16384x1_S16384x2048_0_1
        (Host.rsqrt (addf (Host.divf (broadcastInDim Cert.InReferenceIdeal.S16384x1 ![0] Cert.InReferenceIdeal.Gen.bcast_S16384_S16384x1_0
            (Host.reduceAdd (mulf x x) (constant Cert.InReferenceIdeal.S_ .f32 0#32)
              Cert.InReferenceIdeal.Gen.reducesTo_S16384x2048_S16384_d1 Cert.InReferenceIdeal.Gen.h_S_))
            (broadcastInDim Cert.InReferenceIdeal.S16384x1 ![] Cert.InReferenceIdeal.Gen.bcast_S_S16384x1 (constant Cert.InReferenceIdeal.S_ .f32 0x45000000#32)))
          (broadcastInDim Cert.InReferenceIdeal.S16384x1 ![] Cert.InReferenceIdeal.Gen.bcast_S_S16384x1 (constant Cert.InReferenceIdeal.S_ .f32 0x358637BD#32))))))
      (broadcastInDim Cert.InReferenceIdeal.S16384x2048 ![0, 1] Cert.InReferenceIdeal.Gen.bcast_S1x2048_S16384x2048_0_1
        (broadcastInDim Cert.InReferenceIdeal.S1x2048 ![1] Cert.InReferenceIdeal.Gen.bcast_S2048_S1x2048_1 g))) w

theorem host_entry (x : FVec Ideal S16384x2048 .f32) (g : FVec Ideal S2048 .f32) (w : FVec Ideal S2048x5136 .f32)
    (r : Fin 16384) (a : Fin 5136) : HOST x g w (ix2 r a) = PROD x g w r a := by
  unfold PROD Ffn.norm Ffn.scale
  pointwise [HOST]

/-- The reference's first result holds the same numbers. -/
theorem host_main (x : FVec Ideal S16384x2048 .f32) (g : FVec Ideal S2048 .f32) (w : FVec Ideal S2048x5136 .f32) :
    extractStridedSlice Cert.InReferenceIdeal.S16384x5120 ![0, 0] (HOST x g w) Cert.InReferenceIdeal.Gen.slices_S16384x5136_S16384x5120_0_0
      = MAIN x g w := by
  funext y
  obtain ⟨r, q, rfl⟩ : ∃ r q, y = ix2 r q := ⟨_, _, (ix2_eta y).symm⟩
  have h := host_entry x g w
  show _ = PROD x g w r (Fin.castLE _ q)
  generalize HOST x g w = p at h ⊢
  rw [← h]
  pointwise
  rfl

/-- The reference's second result holds the same numbers. -/
theorem host_extra (x : FVec Ideal S16384x2048 .f32) (g : FVec Ideal S2048 .f32) (w : FVec Ideal S2048x5136 .f32) :
    pad Cert.InReferenceIdeal.S16384x128 ![0, 0] ![0, 112] ![0, 0]
      (extractStridedSlice Cert.InReferenceIdeal.S16384x16 ![0, 5120] (HOST x g w) Cert.InReferenceIdeal.Gen.slices_S16384x5136_S16384x16_0_5120)
      (sitofp .f32 (constantI Cert.InReferenceIdeal.S_ 32 0#32)) Cert.InReferenceIdeal.Gen.pads_S16384x16_S16384x128_000_01120 Cert.InReferenceIdeal.Gen.h_S_
      = EXTRA x g w := by
  funext y
  obtain ⟨r, q, rfl⟩ : ∃ r q, y = ix2 r q := ⟨_, _, (ix2_eta y).symm⟩
  have h := host_entry x g w
  show _ = if h : q.val < 16 then PROD x g w r ⟨5120 + q.val, _⟩ else 0
  generalize HOST x g w = p at h ⊢
  simp only [← h]
  pointwise
  by_cases h : q.val < 16
  · rw [dif_pos h, dif_pos h]
  · rw [dif_neg h, dif_neg h]
    exact show ((((0#32 : BitVec 32).toInt : ℝ)) : EReal) = 0 by simp

end Cert.Proof.InValue

end
-- ==== Proof.OddIn.Value.lean ====
/- The odd layers' normalised in-projection over its arrays: the blocks the kernel writes are the product's first 4096 columns, and
   the small array beside them holds the last 80 columns, padded with zeros. -/
module

public import proofs.«01_k».proof.Proof.OddIn.FrameIdeal
public import proofs.«01_k».proof.Proof.Gen.OddInReferenceIdeal.Run
public import proofs.«01_k».proof.Proof.Ffn.Math
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Proof.OddInValue

open Cert.OddInKernelIdeal Cert.OddInKernelIdeal.Gen

variable (m : (ℓ : Loc nD τ sig) → Buf (Elt Ideal) ℓ)

/-- The product of the normalised row `r` with the weight's column `a`. -/
def PROD (x : FVec Ideal S16384x2048 .f32) (g : FVec Ideal S2048 .f32) (w : FVec Ideal S2048x4176 .f32)
    (r : Fin 16384) (a : Fin 4176) : EReal :=
  ∑ d : Fin 2048, Ffn.norm (fun d => x (ix2 r d)) (fun d => g (ix1 d)) d * w (ix2 d a)

/-- The first 4096 columns. -/
def MAIN (x : FVec Ideal S16384x2048 .f32) (g : FVec Ideal S2048 .f32) (w : FVec Ideal S2048x4176 .f32) :
    FVec Ideal S16384x4096 .bf16 :=
  fun y => PROD x g w (y 0) (Fin.castLE (by decide) (y 1 : Fin 4096))

/-- The last 80 columns, followed by 48 columns of zeros. -/
def EXTRA (x : FVec Ideal S16384x2048 .f32) (g : FVec Ideal S2048 .f32) (w : FVec Ideal S2048x4176 .f32) :
    FVec Ideal S16384x128 .f32 :=
  fun y => if h : (y 1 : Fin 128).val < 80 then PROD x g w (y 0) ⟨4096 + (y 1 : Fin 128).val, by omega⟩ else 0

/-- Every window's block index at a point. -/
theorem idx : ∀ t : Fin cfg0.N, win0_0.index t = ![t.val / 4, 0] ∧ win0_1.index t = ![0, 0] ∧
    win0_2.index t = ![0, t.val % 4] ∧ win0_3.index t = ![0, 0] ∧ win0_4.index t = ![t.val / 4, t.val % 4] ∧
    win0_5.index t = ![t.val / 4, 0] :=
  (by decide +kernel : ∀ t : Fin grid0.N, _)

/-- The row of the arrays that row `r` of point `t`'s block is. -/
def rowOf (t : Fin cfg0.N) (r : Fin 512) : Fin 16384 :=
  ⟨t.val / 4 * 512 + r.val, by have := t.isLt; have := points; omega⟩

theorem rowOf_base (t : Fin cfg0.N) (r : Fin 512) : rowOf (base t) r = rowOf t r := by
  simp only [rowOf, base, Fin.mk.injEq]; omega

theorem x_entry (c : Dev nD) (t : Fin cfg0.N) (r : Fin 512) (d : Fin 2048) :
    (iblk m c 0 t : FVec Ideal S512x2048 .f32) (ix2 r d) = m ((c : Thread nD τ).loc main_arg0) (ix2 (rowOf t r) d) := by
  blk_point [iblk, V, rowOf, idx t]

/-- The norm's weight as the call finds it. -/
theorem norm_read (c : Dev nD) : (V m c main_v5 : FVec Ideal S1x2048 .f32)
    = shapeCast S1x2048 (m ((c : Thread nD τ).loc main_arg1) : FVec Ideal S2048 .f32) shapeCasts_S2048_S1x2048 := by
  delta V
  simp only [hostOps0, hostOps0_1, hostOps0_2, List.flatten_cons, List.flatten_nil, List.append_nil, List.cons_append, List.nil_append]
  after_results
  rfl

/-- The wide part of the weight as the call finds it. -/
theorem weight_read (c : Dev nD) : (V m c main_v1 : FVec Ideal S2048x4096 .bf16)
    = truncf .bf16 (extractStridedSlice S2048x4096 ![0, 0] (m ((c : Thread nD τ).loc main_arg2) : FVec Ideal S2048x4176 .f32)
        slices_S2048x4176_S2048x4096_0_0 : FVec Ideal S2048x4096 .f32) bitsLt_bf16_f32 := by
  delta V
  simp only [hostOps0, hostOps0_1, hostOps0_2, List.flatten_cons, List.flatten_nil, List.append_nil, List.cons_append, List.nil_append]
  after_results

/-- The weight's last 80 columns, padded, as the call finds them. -/
theorem extra_read (c : Dev nD) : (V m c main_v4 : FVec Ideal S2048x128 .bf16)
    = truncf .bf16 (pad S2048x128 ![0, 0] ![0, 48] ![0, 0]
        (extractStridedSlice S2048x80 ![0, 4096] (m ((c : Thread nD τ).loc main_arg2) : FVec Ideal S2048x4176 .f32)
          slices_S2048x4176_S2048x80_0_4096)
        (sitofp .f32 (constantI S_ 32 0#32)) pads_S2048x80_S2048x128_000_0480 h_S_ : FVec Ideal S2048x128 .f32) bitsLt_bf16_f32 := by
  delta V
  simp only [hostOps0, hostOps0_1, hostOps0_2, List.flatten_cons, List.flatten_nil, List.append_nil, List.cons_append, List.nil_append]
  after_results
  rfl

theorem g_entry (c : Dev nD) (t : Fin cfg0.N) (d : Fin 2048) :
    (iblk m c 1 t : FVec Ideal S1x2048 .f32) (ix2 0 d) = m ((c : Thread nD τ).loc main_arg1) (ix1 d) := by
  blk_simp [iblk, idx t]
  rw [norm_read]
  pointwise
  all_goals blk_ext [idx t]

theorem w_entry (c : Dev nD) (t : Fin cfg0.N) (d : Fin 2048) (k : Fin 1024) (a : Fin 4176)
    (h : a.val = t.val % 4 * 1024 + k.val) :
    (iblk m c 2 t : FVec Ideal S2048x1024 .bf16) (ix2 d k) = m ((c : Thread nD τ).loc main_arg2) (ix2 d a) := by
  obtain ⟨a, ha⟩ := a
  subst h
  have e : (win0_2.blk t).view.emb (ix2 d k) = ix2 d ⟨t.val % 4 * 1024 + k.val, by omega⟩ := by blk_ext [idx t]
  show (V m c main_v1 : FVec Ideal S2048x4096 .bf16) ((win0_2.blk t).view.emb (ix2 d k)) = _
  rw [e, weight_read]
  pointwise

theorem we_entry (c : Dev nD) (t : Fin cfg0.N) (d : Fin 2048) (k : Fin 128) :
    (iblk m c 3 t : FVec Ideal S2048x128 .bf16) (ix2 d k)
      = if h : k.val < 80 then m ((c : Thread nD τ).loc main_arg2) (ix2 d ⟨4096 + k.val, by omega⟩) else (0 : EReal) := by
  have e : (win0_3.blk t).view.emb (ix2 d k) = ix2 d k := by blk_ext [idx t]
  show (V m c main_v4 : FVec Ideal S2048x128 .bf16) ((win0_3.blk t).view.emb (ix2 d k)) = _
  rw [e, extra_read]
  pointwise
  by_cases h : k.val < 80
  · rw [dif_pos h, dif_pos h]
  · rw [dif_neg h, dif_neg h]
    exact show ((((0#32 : BitVec 32).toInt : ℝ)) : EReal) = 0 by simp

/-- The normalised block, at an entry. -/
theorem norm_entry (c : Dev nD) (t : Fin cfg0.N) (r : Fin 512) (d : Fin 2048) :
    k0_pay1 (F := Ideal) (iblk m c 0 (base t)) (iblk m c 1 (base t)) (ix2 r d)
      = Ffn.norm (fun d => m ((c : Thread nD τ).loc main_arg0) (ix2 (rowOf t r) d))
          (fun d => m ((c : Thread nD τ).loc main_arg1) (ix1 d)) d := by
  have h := x_entry m c (base t) r
  have hg := g_entry m c (base t)
  rw [← rowOf_base]
  pointwise [k0_pay1]
  simp only [Ffn.norm, Ffn.scale, h, hg]

/-- The rows kept for a row block's points, at an entry. -/
theorem rows_entry (c : Dev nD) (t : Fin cfg0.N) (r : Fin 512) (d : Fin 2048) :
    rowsAt m c t (ix2 r d)
      = Ffn.norm (fun d => m ((c : Thread nD τ).loc main_arg0) (ix2 (rowOf t r) d))
          (fun d => m ((c : Thread nD τ).loc main_arg1) (ix1 d)) d := by
  refine Eq.trans ?_ (norm_entry m c t r d)
  pointwise [rowsAt, k0_pay2]

/-- A block of the wide result. -/
theorem point (c : Dev nD) (t : Fin cfg0.N) (y : S512x1024.Idx) :
    outAt m c t y = MAIN (m ((c : Thread nD τ).loc main_arg0)) (m ((c : Thread nD τ).loc main_arg1))
      (m ((c : Thread nD τ).loc main_arg2)) (((cfg0.win 4).blk t).view.emb y) := by
  obtain ⟨r, q, rfl⟩ : ∃ r q, y = ix2 r q := ⟨_, _, (ix2_eta y).symm⟩
  have he : ((cfg0.win 4).blk t).view.emb (ix2 r q) = ix2 (rowOf t r) ⟨t.val % 4 * 1024 + q.val, by omega⟩ := by
    blk_ext [rowOf, idx t]
  have hw := fun d => w_entry m c t d q ⟨t.val % 4 * 1024 + q.val, by omega⟩ rfl
  have hx := rows_entry m c t r
  rw [he]
  show _ = PROD _ _ _ (rowOf t r) ⟨t.val % 4 * 1024 + q.val, _⟩
  unfold outAt
  generalize rowsAt m c t = xn at hx ⊢
  pointwise [k0_pay4]
  simp only [PROD, hx, hw]

/-- A block of the small result. -/
theorem extra_point (c : Dev nD) (t : Fin cfg0.N) (y : S512x128.Idx) :
    extraAt m c t y = EXTRA (m ((c : Thread nD τ).loc main_arg0)) (m ((c : Thread nD τ).loc main_arg1))
      (m ((c : Thread nD τ).loc main_arg2)) (((cfg0.win 5).blk t).view.emb y) := by
  obtain ⟨r, q, rfl⟩ : ∃ r q, y = ix2 r q := ⟨_, _, (ix2_eta y).symm⟩
  have he : ((cfg0.win 5).blk t).view.emb (ix2 r q) = ix2 (rowOf t r) q := by
    blk_ext [rowOf, idx t]
  have hw := fun d => we_entry m c (base t) d q
  have hx := norm_entry m c t r
  rw [he]
  show _ = if h : q.val < 80 then PROD _ _ _ (rowOf t r) ⟨4096 + q.val, _⟩ else 0
  unfold extraAt k0_pay3
  generalize k0_pay1 (F := Ideal) (iblk m c 0 (base t)) (iblk m c 1 (base t)) = xn at hx ⊢
  pointwise
  simp only [hx, hw]
  by_cases h : q.val < 80
  · simp only [dif_pos h, PROD]
  · simp only [dif_neg h]
    exact Finset.sum_eq_zero (M := EReal) fun d _ => mul_zero (M₀ := EReal) _

/-- The wide result after the run. -/
theorem final_main (c : Dev nD) : (dats m 0 c).arrAt 4 cfg0.N
    = MAIN (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

/-- The small result after the run. -/
theorem final_extra (c : Dev nD) : (dats m 0 c).arrAt 5 cfg0.N
    = EXTRA (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact extra_point m c t y

/-- The run of the kernel: both results, and the arguments unchanged. -/
theorem run_blocks (ρ : Dev nD → PrngReg) :
    θ_run defs (onTc (τ := τ) (main (F := Ideal))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 4, (h c).1 5,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

/-- The reference's product of the normalised rows with the whole weight. -/
abbrev HOST (x : FVec Ideal S16384x2048 .f32) (g : FVec Ideal S2048 .f32) (w : FVec Ideal S2048x4176 .f32) :
    FVec Ideal Cert.OddInReferenceIdeal.S16384x4176 .f32 :=
  Host.dotGeneral Cert.OddInReferenceIdeal.dot_S16384x2048_S2048x4176_S16384x4176_1_0_0_1_n_n none
    (mulf (mulf x (broadcastInDim Cert.OddInReferenceIdeal.S16384x2048 ![0, 1] Cert.OddInReferenceIdeal.Gen.bcast_S16384x1_S16384x2048_0_1
        (Host.rsqrt (addf (Host.divf (broadcastInDim Cert.OddInReferenceIdeal.S16384x1 ![0] Cert.OddInReferenceIdeal.Gen.bcast_S16384_S16384x1_0
            (Host.reduceAdd (mulf x x) (constant Cert.OddInReferenceIdeal.S_ .f32 0#32)
              Cert.OddInReferenceIdeal.Gen.reducesTo_S16384x2048_S16384_d1 Cert.OddInReferenceIdeal.Gen.h_S_))
            (broadcastInDim Cert.OddInReferenceIdeal.S16384x1 ![] Cert.OddInReferenceIdeal.Gen.bcast_S_S16384x1 (constant Cert.OddInReferenceIdeal.S_ .f32 0x45000000#32)))
          (broadcastInDim Cert.OddInReferenceIdeal.S16384x1 ![] Cert.OddInReferenceIdeal.Gen.bcast_S_S16384x1 (constant Cert.OddInReferenceIdeal.S_ .f32 0x358637BD#32))))))
      (broadcastInDim Cert.OddInReferenceIdeal.S16384x2048 ![0, 1] Cert.OddInReferenceIdeal.Gen.bcast_S1x2048_S16384x2048_0_1
        (broadcastInDim Cert.OddInReferenceIdeal.S1x2048 ![1] Cert.OddInReferenceIdeal.Gen.bcast_S2048_S1x2048_1 g))) w

theorem host_entry (x : FVec Ideal S16384x2048 .f32) (g : FVec Ideal S2048 .f32) (w : FVec Ideal S2048x4176 .f32)
    (r : Fin 16384) (a : Fin 4176) : HOST x g w (ix2 r a) = PROD x g w r a := by
  unfold PROD Ffn.norm Ffn.scale
  pointwise [HOST]

/-- The reference's first result holds the same numbers. -/
theorem host_main (x : FVec Ideal S16384x2048 .f32) (g : FVec Ideal S2048 .f32) (w : FVec Ideal S2048x4176 .f32) :
    truncf .bf16 (extractStridedSlice Cert.OddInReferenceIdeal.S16384x4096 ![0, 0] (HOST x g w)
        Cert.OddInReferenceIdeal.Gen.slices_S16384x4176_S16384x4096_0_0) Cert.OddInReferenceIdeal.Gen.bitsLt_bf16_f32
      = MAIN x g w := by
  funext y
  obtain ⟨r, q, rfl⟩ : ∃ r q, y = ix2 r q := ⟨_, _, (ix2_eta y).symm⟩
  have h := host_entry x g w
  show _ = PROD x g w r (Fin.castLE _ q)
  generalize HOST x g w = p at h ⊢
  rw [← h]
  pointwise
  rfl

/-- The reference's second result holds the same numbers. -/
theorem host_extra (x : FVec Ideal S16384x2048 .f32) (g : FVec Ideal S2048 .f32) (w : FVec Ideal S2048x4176 .f32) :
    pad Cert.OddInReferenceIdeal.S16384x128 ![0, 0] ![0, 48] ![0, 0]
      (extractStridedSlice Cert.OddInReferenceIdeal.S16384x80 ![0, 4096] (HOST x g w) Cert.OddInReferenceIdeal.Gen.slices_S16384x4176_S16384x80_0_4096)
      (sitofp .f32 (constantI Cert.OddInReferenceIdeal.S_ 32 0#32)) Cert.OddInReferenceIdeal.Gen.pads_S16384x80_S16384x128_000_0480 Cert.OddInReferenceIdeal.Gen.h_S_
      = EXTRA x g w := by
  funext y
  obtain ⟨r, q, rfl⟩ : ∃ r q, y = ix2 r q := ⟨_, _, (ix2_eta y).symm⟩
  have h := host_entry x g w
  show _ = if h : q.val < 80 then PROD x g w r ⟨4096 + q.val, _⟩ else 0
  generalize HOST x g w = p at h ⊢
  simp only [← h]
  pointwise
  by_cases h : q.val < 80
  · rw [dif_pos h, dif_pos h]
  · rw [dif_neg h, dif_neg h]
    exact show ((((0#32 : BitVec 32).toInt : ℝ)) : EReal) = 0 by simp

end Cert.Proof.OddInValue

end
-- ==== Proof.Proj.Odd.lean ====
/- The output projection of an odd layer with its residual: the array the kernel leaves, block by block, is `h + o · W`,
   the reference's result. -/
module

public import proofs.«01_k».proof.Proof.Gen.OddProjKernelIdeal.Value
public import proofs.«01_k».proof.Proof.Gen.OddProjReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.OddProjValue

open Cert.OddProjKernelIdeal Cert.OddProjKernelIdeal.Gen

variable (m : (ℓ : Loc nD τ sig) → Buf (Elt Ideal) ℓ)

/-- The reference's result over its three arguments. -/
abbrev REF (h : FVec Ideal S16384x2048 .f32) (o : FVec Ideal S16384x2048 .bf16) (w : FVec Ideal S2048x2048 .f32) :
    FVec Ideal S16384x2048 .f32 :=
  addf h (Host.dotGeneral Cert.OddProjReferenceIdeal.dot_S16384x2048_S2048x2048_S16384x2048_1_0_0_1_n_n none
    (extf .f32 o Cert.OddProjReferenceIdeal.Gen.bitsLt_bf16_f32) w)

/-- Every window's block index at a point. -/
theorem idx : ∀ t : Fin cfg0.N, win0_0.index t = ![t.val / 2, t.val % 2] ∧ win0_1.index t = ![t.val / 2, 0] ∧
    win0_2.index t = ![0, t.val % 2] ∧ win0_3.index t = ![t.val / 2, t.val % 2] :=
  (by decide +kernel : ∀ t : Fin grid0.N, _)

theorem point (c : Dev nD) (t : Fin cfg0.N) (y) :
    k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Proof.OddProjValue

end
-- ==== Proof.Proj.Value.lean ====
/- The output projection with its residual: the array the kernel leaves, block by block, is
   `h + [a, b] · W`, the reference's result. -/
module

public import proofs.«01_k».proof.Proof.Gen.ProjKernelIdeal.Value
public import proofs.«01_k».proof.Proof.Gen.ProjReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.ProjValue

open Cert.ProjKernelIdeal Cert.ProjKernelIdeal.Gen

variable (m : (ℓ : Loc nD τ sig) → Buf (Elt Ideal) ℓ)

/-- The reference's result over its four arguments. -/
abbrev REF (h : FVec Ideal S16384x2048 .f32) (a b : FVec Ideal S16384x1024 .bf16) (w : FVec Ideal S2048x2048 .f32) :
    FVec Ideal S16384x2048 .f32 :=
  addf h (Host.dotGeneral Cert.ProjReferenceIdeal.dot_S16384x2048_S2048x2048_S16384x2048_1_0_0_1_n_n none
    (extf .f32 (concatenate Cert.ProjReferenceIdeal.S16384x2048 1 [⟨Cert.ProjReferenceIdeal.S16384x1024, a⟩, ⟨Cert.ProjReferenceIdeal.S16384x1024, b⟩]
      Cert.ProjReferenceIdeal.Gen.concatenates_S16384x1024_S16384x1024_S16384x2048_d1) Cert.ProjReferenceIdeal.Gen.bitsLt_bf16_f32) w)

/-- Every window's block index at a point. -/
theorem idx : ∀ t : Fin cfg0.N, win0_0.index t = ![t.val / 2, t.val % 2] ∧ win0_1.index t = ![t.val / 2, 0] ∧
    win0_2.index t = ![t.val / 2, 0] ∧ win0_3.index t = ![0, t.val % 2] ∧ win0_4.index t = ![0, t.val % 2] ∧
    win0_5.index t = ![t.val / 2, t.val % 2] :=
  (by decide +kernel : ∀ t : Fin grid0.N, _)

theorem point (c : Dev nD) (t : Fin cfg0.N) (y) :
    k0_pay1 (iblk m c 0 t) (iblk m c 1 t) (iblk m c 3 t) (iblk m c 2 t) (iblk m c 4 t) y
    = REF (m ((c : Thread nD τ).loc main_arg0)) (m ((c : Thread nD τ).loc main_arg1)) (m ((c : Thread nD τ).loc main_arg2))
        (m ((c : Thread nD τ).loc main_arg3)) (((cfg0.win 5).blk t).view.emb y) := by
  pointwise [k0_pay1, REF]
  rw [← add_assoc]
  blk_point [iblk, V, idx t]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y

end Cert.Proof.ProjValue

end
-- ==== Proof.Ffn.Mid.lean ====
module

public import proofs.«01_k».proof.Proof.Gen.FfnMidKernelIdeal.Value
public import proofs.«01_k».proof.Proof.Gen.FfnMidReferenceIdeal.Run
public import Idealize.ShloMosaic.Lib.Pipeline.ReadBack
public import proofs.«01_k».proof.Proof.Ffn.Math

@[expose] public section

set_option maxRecDepth 16384

noncomputable section

open Idealize.ShloMosaic Idealize.ShloMosaic.TcCoe Idealize.SL.Sem
open Idealize.ShloMosaic.Pipeline (Dat)
open scoped BigOperators

/-!
The feed-forward kernel of the first three layers, over its arrays: every block of the output holds the layer's rows.
The grid runs over 32 blocks of 512 rows and, within each, over 8 slices of the hidden numbers: the first point of a
run normalises the rows and clears the accumulator, every point adds its slice's contribution, the last one adds the
rows and writes out.
-/

namespace Cert.Proof.FfnMidValue

open Cert.FfnMidKernelIdeal Cert.FfnMidKernelIdeal.Gen

variable (m : (ℓ : Loc nD τ sig) → Buf (Elt Ideal) ℓ)

/-- The layer at row `r`, over the argument arrays. -/
def OUT (x : FVec Ideal S16384x2048 .f32) (g : FVec Ideal S2048 .f32) (w1 : FVec Ideal S2048x8192 .f32)
    (w2 : FVec Ideal S8192x2048 .f32) (r : Fin 16384) (q : Fin 2048) : EReal :=
  Ffn.row (fun d => x (ix2 r d)) (fun d => g (ix1 d)) (fun d a => w1 (ix2 d a)) (fun a d => w2 (ix2 a d)) q

/-- The result array, over the argument arrays. -/
def REF (x : FVec Ideal S16384x2048 .f32) (g : FVec Ideal S2048 .f32) (w1 : FVec Ideal S2048x8192 .f32)
    (w2 : FVec Ideal S8192x2048 .f32) : FVec Ideal S16384x2048 .f32 :=
  fun y => OUT x g w1 w2 (y 0) (y 1)

/-- Every window's block index at a point. -/
theorem idx : ∀ t : Fin cfg0.N, win0_0.index t = ![t.val / 8, 0] ∧ win0_1.index t = ![0, 0] ∧
    win0_2.index t = ![0, t.val % 8] ∧ win0_3.index t = ![t.val % 8, 0] ∧ win0_5.index t = ![t.val / 8, 0] :=
  (by decide +kernel : ∀ t : Fin grid0.N, _)

/-- The row of the arrays that row `r` of point `t`'s block is. -/
def rowOf (t : Fin cfg0.N) (r : Fin 512) : Fin 16384 :=
  ⟨t.val / 8 * 512 + r.val, by have := t.isLt; have h : cfg0.N = 256 := by decide +kernel
                               omega⟩

theorem x_entry (c : Dev nD) (t : Fin cfg0.N) (r : Fin 512) (d : Fin 2048) :
    (iblk m c 0 t : FVec Ideal S512x2048 .f32) (ix2 r d) = m ((c : Thread nD τ).loc main_arg0) (ix2 (rowOf t r) d) := by
  blk_point [iblk, V, rowOf, idx t]

theorem g_entry (c : Dev nD) (t : Fin cfg0.N) (d : Fin 2048) :
    (iblk m c 1 t : FVec Ideal S1x2048 .f32) (ix2 0 d) = m ((c : Thread nD τ).loc main_arg1) (ix1 d) := by
  blk_point [iblk, V, idx t]

theorem w1_entry (c : Dev nD) (t : Fin cfg0.N) (d : Fin 2048) (k : Fin 1024) (a : Fin 8192)
    (h : a.val = t.val % 8 * 1024 + k.val) :
    (iblk m c 2 t : FVec Ideal S2048x1024 .bf16) (ix2 d k) = m ((c : Thread nD τ).loc main_arg2) (ix2 d a) := by
  obtain ⟨a, ha⟩ := a
  subst h
  blk_point [iblk, V, idx t]

theorem w2_entry (c : Dev nD) (t : Fin cfg0.N) (k : Fin 1024) (q : Fin 2048) (a : Fin 8192)
    (h : a.val = t.val % 8 * 1024 + k.val) :
    (iblk m c 3 t : FVec Ideal S1024x2048 .bf16) (ix2 k q) = m ((c : Thread nD τ).loc main_arg3) (ix2 a q) := by
  obtain ⟨a, ha⟩ := a
  subst h
  blk_point [iblk, V, idx t]

/-- The normalised block, at an entry. -/
theorem norm_entry (c : Dev nD) (t : Fin cfg0.N) (r : Fin 512) (d : Fin 2048) :
    k0_pay1 (F := Ideal) (iblk m c 0 t) (iblk m c 1 t) (ix2 r d)
      = Ffn.norm (fun d => m ((c : Thread nD τ).loc main_arg0) (ix2 (rowOf t r) d))
          (fun d => m ((c : Thread nD τ).loc main_arg1) (ix1 d)) d := by
  have h := x_entry m c t r
  have hg := g_entry m c t
  pointwise [k0_pay1]
  simp only [Ffn.norm, Ffn.scale, h, hg]

/-- The normalised block is kept from the run's first point on. -/
theorem kept (c : Dev nD) : ∀ (n : ℕ) (hn : n < cfg0.N) (r : Fin 512) (d : Fin 2048),
    (outsAt0 m c n hn).2.1 (ix2 r d)
      = Ffn.norm (fun d => m ((c : Thread nD τ).loc main_arg0) (ix2 (rowOf ⟨n, hn⟩ r) d))
          (fun d => m ((c : Thread nD τ).loc main_arg1) (ix1 d)) d := by
  intro n
  induction n with
  | zero =>
    intro hn r d
    rw [outsAt0_A m c ⟨0, hn⟩ rfl (by show ¬ 0 % 8 = 7; decide)]; frame_out
    exact norm_entry m c ⟨0, hn⟩ r d
  | succ n ih =>
    intro hn r d
    by_cases h0 : (n + 1) % 8 = 0
    · rw [outsAt0_A m c ⟨n + 1, hn⟩ h0 (by simp only; omega)]; frame_out
      exact norm_entry m c ⟨n + 1, hn⟩ r d
    · have hr : rowOf ⟨n, by omega⟩ r = rowOf ⟨n + 1, hn⟩ r := by
        simp only [rowOf, Fin.mk.injEq]; omega
      have := ih (by omega) r d
      rw [hr] at this
      by_cases h1 : (n + 1) % 8 = 7
      · rw [outsAt0_C m c ⟨n + 1, hn⟩ h0 h1]; frame_out
        exact this
      · rw [outsAt0_B m c ⟨n + 1, hn⟩ h0 h1]; frame_out
        exact this

/-- What one point adds to the accumulator, at an entry. -/
def term (c : Dev nD) (t : Fin cfg0.N) (r : Fin 512) (q : Fin 2048) : EReal :=
  ∑ k : Fin 1024, Ffn.hidden (Ffn.norm (fun d => m ((c : Thread nD τ).loc main_arg0) (ix2 (rowOf t r) d))
      (fun d => m ((c : Thread nD τ).loc main_arg1) (ix1 d)))
    (fun d => (iblk m c 2 t : FVec Ideal S2048x1024 .bf16) (ix2 d k)) * (iblk m c 3 t : FVec Ideal S1024x2048 .bf16) (ix2 k q)

theorem add_entry (c : Dev nD) (t : Fin cfg0.N) (xn : FVec Ideal S512x2048 .bf16) (acc : FVec Ideal S512x2048 .f32)
    (hx : ∀ r d, xn (ix2 r d) = Ffn.norm (fun d => m ((c : Thread nD τ).loc main_arg0) (ix2 (rowOf t r) d))
      (fun d => m ((c : Thread nD τ).loc main_arg1) (ix1 d)) d) (r : Fin 512) (q : Fin 2048) :
    k0_pay3 xn (iblk m c 2 t) acc (iblk m c 3 t) (ix2 r q) = acc (ix2 r q) + term m c t r q := by
  pointwise [k0_pay3]
  simp only [term, Ffn.hidden, hx]

/-- The accumulator after point `n`: cleared at a run's first point, added to at every point. -/
theorem acc_step (c : Dev nD) (t : Fin cfg0.N) (r : Fin 512) (q : Fin 2048) :
    (outsAt0 m c t.val t.isLt).2.2 (ix2 r q)
      = (if t.val % 8 = 0 then 0 else (outsAt0 m c (t.val - 1) (Nat.lt_of_le_of_lt (Nat.sub_le _ _) t.isLt)).2.2 (ix2 r q))
        + term m c t r q := by
  have hk : t.val % 8 ≠ 0 → ∀ (r : Fin 512) (d : Fin 2048),
      (outsAt0 m c (t.val - 1) (Nat.lt_of_le_of_lt (Nat.sub_le _ _) t.isLt)).2.1 (ix2 r d)
      = Ffn.norm (fun d => m ((c : Thread nD τ).loc main_arg0) (ix2 (rowOf t r) d))
          (fun d => m ((c : Thread nD τ).loc main_arg1) (ix1 d)) d := fun h r d => by
    rw [kept m c (t.val - 1) _ r d]
    have : rowOf ⟨t.val - 1, Nat.lt_of_le_of_lt (Nat.sub_le _ _) t.isLt⟩ r = rowOf t r := by
      simp only [rowOf, Fin.mk.injEq]; omega
    rw [this]
  by_cases h0 : t.val % 8 = 0
  · rw [outsAt0_A m c t h0 (by omega)]; frame_out
    rw [if_pos h0]
    refine (add_entry m c t (k0_pay1 (iblk m c 0 t) (iblk m c 1 t)) (k0_pay2 (F := Ideal)) (norm_entry m c t) r q).trans ?_
    have hz : k0_pay2 (F := Ideal) (ix2 r q) = 0 := by pointwise [k0_pay2]
    rw [hz]
  · rw [if_neg h0]
    by_cases h1 : t.val % 8 = 7
    · rw [outsAt0_C m c t h0 h1]; frame_out
      rw [read_unread_whole, read_unread_whole]
      exact add_entry m c t _ _ (hk h0) r q
    · rw [outsAt0_B m c t h0 h1]; frame_out
      rw [read_unread_whole, read_unread_whole]
      exact add_entry m c t _ _ (hk h0) r q

/-- The accumulator at a run's last point: the whole sum over the hidden numbers. -/
theorem acc_last (c : Dev nD) (t : Fin cfg0.N) (h7 : t.val % 8 = 7) (r : Fin 512) (q : Fin 2048) :
    (outsAt0 m c t.val t.isLt).2.2 (ix2 r q)
      = ∑ a : Fin 8192, Ffn.hidden (Ffn.norm (fun d => m ((c : Thread nD τ).loc main_arg0) (ix2 (rowOf t r) d))
          (fun d => m ((c : Thread nD τ).loc main_arg1) (ix1 d)))
        (fun d => m ((c : Thread nD τ).loc main_arg2) (ix2 d a)) * m ((c : Thread nD τ).loc main_arg3) (ix2 a q) := by
  have hrun := Pipeline.eq_sum_fin_of_reset_step_apply_of_flush (fun n h => (outsAt0 m c n h).2.2) 8
    (fun _ : S512x2048.Idx => (0 : EReal)) (fun t (y : S512x2048.Idx) => term m c t (y 0) (y 1))
    (fun t h i => by
      obtain ⟨r, q, rfl⟩ : ∃ r q, i = ix2 r q := ⟨_, _, (ix2_eta i).symm⟩
      exact (acc_step m c t r q).trans (by rw [if_pos h]; rfl))
    (fun t h i => by
      obtain ⟨r, q, rfl⟩ : ∃ r q, i = ix2 r q := ⟨_, _, (ix2_eta i).symm⟩
      exact (acc_step m c t r q).trans (by rw [if_neg h]; rfl)) t h7 (ix2 r q)
  refine hrun.trans ((zero_add _).trans ?_)
  refine Fin.sum_mul_add_congr fun s k hl => ?_
  have hN : cfg0.N = 256 := by decide +kernel
  have hs := s.isLt
  have hlt := Pipeline.run_point_lt_of_flush t h7 s
  have hr : rowOf ⟨_, hlt⟩ r = rowOf t r := by
    simp only [rowOf, Fin.mk.injEq]; omega
  have ha : s.val * 1024 + k.val = (8 * (t.val / 8) + s.val) % 8 * 1024 + k.val := by omega
  have e1 := fun d => w1_entry m c ⟨_, hlt⟩ d k ⟨_, hl⟩ ha
  have e2 := w2_entry m c ⟨_, hlt⟩ k q ⟨_, hl⟩ ha
  show Ffn.hidden (Ffn.norm (fun d => m ((c : Thread nD τ).loc main_arg0) (ix2 (rowOf ⟨_, hlt⟩ r) d)) _)
    (fun d => (iblk m c 2 ⟨_, hlt⟩ : FVec Ideal S2048x1024 .bf16) (ix2 d k))
      * (iblk m c 3 ⟨_, hlt⟩ : FVec Ideal S1024x2048 .bf16) (ix2 k q) = _
  rw [hr, e2, funext e1]

/-- One block of the output holds the layer's rows. -/
theorem point (c : Dev nD) (t : Fin cfg0.N) (h7 : t.val % 8 = 7) (y : S512x2048.Idx) :
    k0_pay4 (F := Ideal) (iblk m c 0 t) (outsAt0 m c t.val t.isLt).2.2 y
      = REF (m ((c : Thread nD τ).loc main_arg0)) (m ((c : Thread nD τ).loc main_arg1)) (m ((c : Thread nD τ).loc main_arg2))
          (m ((c : Thread nD τ).loc main_arg3)) (((cfg0.win 5).blk t).view.emb y) := by
  obtain ⟨r, q, rfl⟩ : ∃ r q, y = ix2 r q := ⟨_, _, (ix2_eta y).symm⟩
  have he : ((cfg0.win 5).blk t).view.emb (ix2 r q) = ix2 (rowOf t r) q := by
    blk_ext [rowOf, idx t]
  have hx := x_entry m c t r q
  have ha := acc_last m c t h7 r q
  rw [he]
  show _ = OUT _ _ _ _ (rowOf t r) q
  generalize (outsAt0 m c t.val t.isLt).2.2 = acc at ha ⊢
  pointwise [k0_pay4]
  rw [hx, ha]
  rfl

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  have h7 := (flush0_5 t).mp hf
  have := point m c t h7 y
  rw [outsAt0_C m c t (by omega) h7] at this
  rw [after0_5, outsAt0_C m c t (by omega) h7]
  revert this
  frame_out
  exact id

/-- The reference's array operations over its arguments. -/
def HOST (x : FVec Ideal S16384x2048 .f32) (g : FVec Ideal S2048 .f32) (w1 : FVec Ideal S2048x8192 .f32)
    (w2 : FVec Ideal S8192x2048 .f32) : FVec Ideal S16384x2048 .f32 :=
  have ms : FVec Ideal Cert.FfnMidReferenceIdeal.S16384x1 .f32 :=
    Host.rsqrt (addf (Host.divf (broadcastInDim Cert.FfnMidReferenceIdeal.S16384x1 ![0] Cert.FfnMidReferenceIdeal.Gen.bcast_S16384_S16384x1_0
        (Host.reduceAdd (mulf x x) (constant Cert.FfnMidReferenceIdeal.S_ .f32 0#32)
          Cert.FfnMidReferenceIdeal.Gen.reducesTo_S16384x2048_S16384_d1 Cert.FfnMidReferenceIdeal.Gen.h_S_))
        (broadcastInDim Cert.FfnMidReferenceIdeal.S16384x1 ![] Cert.FfnMidReferenceIdeal.Gen.bcast_S_S16384x1 (constant Cert.FfnMidReferenceIdeal.S_ .f32 0x45000000#32)))
      (broadcastInDim Cert.FfnMidReferenceIdeal.S16384x1 ![] Cert.FfnMidReferenceIdeal.Gen.bcast_S_S16384x1 (constant Cert.FfnMidReferenceIdeal.S_ .f32 0x358637BD#32)))
  have xn : FVec Ideal S16384x2048 .f32 :=
    mulf (mulf x (broadcastInDim Cert.FfnMidReferenceIdeal.S16384x2048 ![0, 1] Cert.FfnMidReferenceIdeal.Gen.bcast_S16384x1_S16384x2048_0_1 ms))
      (broadcastInDim Cert.FfnMidReferenceIdeal.S16384x2048 ![0, 1] Cert.FfnMidReferenceIdeal.Gen.bcast_S1x2048_S16384x2048_0_1
        (broadcastInDim Cert.FfnMidReferenceIdeal.S1x2048 ![1] Cert.FfnMidReferenceIdeal.Gen.bcast_S2048_S1x2048_1 g))
  have h : FVec Ideal Cert.FfnMidReferenceIdeal.S16384x8192 .f32 :=
    maximumf (Host.dotGeneral Cert.FfnMidReferenceIdeal.dot_S16384x2048_S2048x8192_S16384x8192_1_0_0_1_n_n none xn w1)
      (broadcastInDim Cert.FfnMidReferenceIdeal.S16384x8192 ![] Cert.FfnMidReferenceIdeal.Gen.bcast_S_S16384x8192 (constant Cert.FfnMidReferenceIdeal.S_ .f32 0#32))
  addf x (Host.dotGeneral Cert.FfnMidReferenceIdeal.dot_S16384x8192_S8192x2048_S16384x2048_1_0_0_1_n_n none (mulf h h) w2)

/-- They hold the same rows. -/
theorem host_eq (x : FVec Ideal S16384x2048 .f32) (g : FVec Ideal S2048 .f32) (w1 : FVec Ideal S2048x8192 .f32)
    (w2 : FVec Ideal S8192x2048 .f32) : HOST x g w1 w2 = REF x g w1 w2 := by
  funext y
  obtain ⟨r, q, rfl⟩ : ∃ r q, y = ix2 r q := ⟨_, _, (ix2_eta y).symm⟩
  show _ = OUT x g w1 w2 r q
  unfold OUT Ffn.row Ffn.hidden Ffn.norm Ffn.scale
  pointwise [HOST]

end Cert.Proof.FfnMidValue

end
-- ==== Proof.Ffn.Last.lean ====
module

public import proofs.«01_k».proof.Proof.Gen.FfnKernelIdeal.Value
public import proofs.«01_k».proof.Proof.Gen.FfnReferenceIdeal.Run
public import Idealize.ShloMosaic.Lib.Pipeline.ReadBack
public import proofs.«01_k».proof.Proof.Ffn.Math

@[expose] public section

set_option maxRecDepth 16384

noncomputable section

open Idealize.ShloMosaic Idealize.ShloMosaic.TcCoe Idealize.SL.Sem
open Idealize.ShloMosaic.Pipeline (Dat)
open scoped BigOperators

/-!
The feed-forward kernel of the last layer, over its arrays: every block of the output holds the layer's rows, normalised
once more.
The grid runs over 32 blocks of 512 rows and, within each, over 8 slices of the hidden numbers: the first point of a
run normalises the rows and clears the accumulator, every point adds its slice's contribution, the last one adds the
rows, normalises and writes out.
-/

namespace Cert.Proof.FfnValue

open Cert.FfnKernelIdeal Cert.FfnKernelIdeal.Gen

variable (m : (ℓ : Loc nD τ sig) → Buf (Elt Ideal) ℓ)

/-- The layer at row `r`, over the argument arrays. -/
def OUT (x : FVec Ideal S16384x2048 .f32) (g : FVec Ideal S2048 .f32) (w1 : FVec Ideal S2048x8192 .f32)
    (w2 : FVec Ideal S8192x2048 .f32) (r : Fin 16384) (q : Fin 2048) : EReal :=
  Ffn.row (fun d => x (ix2 r d)) (fun d => g (ix1 d)) (fun d a => w1 (ix2 d a)) (fun a d => w2 (ix2 a d)) q

/-- The result array, over the argument arrays. -/
def REF (x : FVec Ideal S16384x2048 .f32) (g : FVec Ideal S2048 .f32) (w1 : FVec Ideal S2048x8192 .f32)
    (w2 : FVec Ideal S8192x2048 .f32) (fg : FVec Ideal S2048 .f32) : FVec Ideal S16384x2048 .f32 :=
  fun y => Ffn.norm (OUT x g w1 w2 (y 0)) (fun d => fg (ix1 d)) (y 1)

/-- Every window's block index at a point. -/
theorem idx : ∀ t : Fin cfg0.N, win0_0.index t = ![t.val / 8, 0] ∧ win0_1.index t = ![0, 0] ∧
    win0_2.index t = ![0, t.val % 8] ∧ win0_3.index t = ![t.val % 8, 0] ∧ win0_4.index t = ![0, 0] ∧ win0_5.index t = ![t.val / 8, 0] :=
  (by decide +kernel : ∀ t : Fin grid0.N, _)

/-- The row of the arrays that row `r` of point `t`'s block is. -/
def rowOf (t : Fin cfg0.N) (r : Fin 512) : Fin 16384 :=
  ⟨t.val / 8 * 512 + r.val, by have := t.isLt; have h : cfg0.N = 256 := by decide +kernel
                               omega⟩

theorem x_entry (c : Dev nD) (t : Fin cfg0.N) (r : Fin 512) (d : Fin 2048) :
    (iblk m c 0 t : FVec Ideal S512x2048 .f32) (ix2 r d) = m ((c : Thread nD τ).loc main_arg0) (ix2 (rowOf t r) d) := by
  blk_point [iblk, V, rowOf, idx t]

theorem g_entry (c : Dev nD) (t : Fin cfg0.N) (d : Fin 2048) :
    (iblk m c 1 t : FVec Ideal S1x2048 .f32) (ix2 0 d) = m ((c : Thread nD τ).loc main_arg1) (ix1 d) := by
  blk_point [iblk, V, idx t]

theorem fg_entry (c : Dev nD) (t : Fin cfg0.N) (d : Fin 2048) :
    (iblk m c 4 t : FVec Ideal S1x2048 .f32) (ix2 0 d) = m ((c : Thread nD τ).loc main_arg4) (ix1 d) := by
  blk_point [iblk, V, idx t]

theorem w1_entry (c : Dev nD) (t : Fin cfg0.N) (d : Fin 2048) (k : Fin 1024) (a : Fin 8192)
    (h : a.val = t.val % 8 * 1024 + k.val) :
    (iblk m c 2 t : FVec Ideal S2048x1024 .bf16) (ix2 d k) = m ((c : Thread nD τ).loc main_arg2) (ix2 d a) := by
  obtain ⟨a, ha⟩ := a
  subst h
  blk_point [iblk, V, idx t]

theorem w2_entry (c : Dev nD) (t : Fin cfg0.N) (k : Fin 1024) (q : Fin 2048) (a : Fin 8192)
    (h : a.val = t.val % 8 * 1024 + k.val) :
    (iblk m c 3 t : FVec Ideal S1024x2048 .bf16) (ix2 k q) = m ((c : Thread nD τ).loc main_arg3) (ix2 a q) := by
  obtain ⟨a, ha⟩ := a
  subst h
  blk_point [iblk, V, idx t]

/-- The normalised block, at an entry. -/
theorem norm_entry (c : Dev nD) (t : Fin cfg0.N) (r : Fin 512) (d : Fin 2048) :
    k0_pay1 (F := Ideal) (iblk m c 0 t) (iblk m c 1 t) (ix2 r d)
      = Ffn.norm (fun d => m ((c : Thread nD τ).loc main_arg0) (ix2 (rowOf t r) d))
          (fun d => m ((c : Thread nD τ).loc main_arg1) (ix1 d)) d := by
  have h := x_entry m c t r
  have hg := g_entry m c t
  pointwise [k0_pay1]
  simp only [Ffn.norm, Ffn.scale, h, hg]

/-- The normalised block is kept from the run's first point on. -/
theorem kept (c : Dev nD) : ∀ (n : ℕ) (hn : n < cfg0.N) (r : Fin 512) (d : Fin 2048),
    (outsAt0 m c n hn).2.1 (ix2 r d)
      = Ffn.norm (fun d => m ((c : Thread nD τ).loc main_arg0) (ix2 (rowOf ⟨n, hn⟩ r) d))
          (fun d => m ((c : Thread nD τ).loc main_arg1) (ix1 d)) d := by
  intro n
  induction n with
  | zero =>
    intro hn r d
    rw [outsAt0_A m c ⟨0, hn⟩ rfl (by show ¬ 0 % 8 = 7; decide)]; frame_out
    exact norm_entry m c ⟨0, hn⟩ r d
  | succ n ih =>
    intro hn r d
    by_cases h0 : (n + 1) % 8 = 0
    · rw [outsAt0_A m c ⟨n + 1, hn⟩ h0 (by simp only; omega)]; frame_out
      exact norm_entry m c ⟨n + 1, hn⟩ r d
    · have hr : rowOf ⟨n, by omega⟩ r = rowOf ⟨n + 1, hn⟩ r := by
        simp only [rowOf, Fin.mk.injEq]; omega
      have := ih (by omega) r d
      rw [hr] at this
      by_cases h1 : (n + 1) % 8 = 7
      · rw [outsAt0_C m c ⟨n + 1, hn⟩ h0 h1]; frame_out
        exact this
      · rw [outsAt0_B m c ⟨n + 1, hn⟩ h0 h1]; frame_out
        exact this

/-- What one point adds to the accumulator, at an entry. -/
def term (c : Dev nD) (t : Fin cfg0.N) (r : Fin 512) (q : Fin 2048) : EReal :=
  ∑ k : Fin 1024, Ffn.hidden (Ffn.norm (fun d => m ((c : Thread nD τ).loc main_arg0) (ix2 (rowOf t r) d))
      (fun d => m ((c : Thread nD τ).loc main_arg1) (ix1 d)))
    (fun d => (iblk m c 2 t : FVec Ideal S2048x1024 .bf16) (ix2 d k)) * (iblk m c 3 t : FVec Ideal S1024x2048 .bf16) (ix2 k q)

theorem add_entry (c : Dev nD) (t : Fin cfg0.N) (xn : FVec Ideal S512x2048 .bf16) (acc : FVec Ideal S512x2048 .f32)
    (hx : ∀ r d, xn (ix2 r d) = Ffn.norm (fun d => m ((c : Thread nD τ).loc main_arg0) (ix2 (rowOf t r) d))
      (fun d => m ((c : Thread nD τ).loc main_arg1) (ix1 d)) d) (r : Fin 512) (q : Fin 2048) :
    k0_pay3 xn (iblk m c 2 t) acc (iblk m c 3 t) (ix2 r q) = acc (ix2 r q) + term m c t r q := by
  pointwise [k0_pay3]
  simp only [term, Ffn.hidden, hx]

/-- The accumulator after point `n`: cleared at a run's first point, added to at every point. -/
theorem acc_step (c : Dev nD) (t : Fin cfg0.N) (r : Fin 512) (q : Fin 2048) :
    (outsAt0 m c t.val t.isLt).2.2 (ix2 r q)
      = (if t.val % 8 = 0 then 0 else (outsAt0 m c (t.val - 1) (Nat.lt_of_le_of_lt (Nat.sub_le _ _) t.isLt)).2.2 (ix2 r q))
        + term m c t r q := by
  have hk : t.val % 8 ≠ 0 → ∀ (r : Fin 512) (d : Fin 2048),
      (outsAt0 m c (t.val - 1) (Nat.lt_of_le_of_lt (Nat.sub_le _ _) t.isLt)).2.1 (ix2 r d)
      = Ffn.norm (fun d => m ((c : Thread nD τ).loc main_arg0) (ix2 (rowOf t r) d))
          (fun d => m ((c : Thread nD τ).loc main_arg1) (ix1 d)) d := fun h r d => by
    rw [kept m c (t.val - 1) _ r d]
    have : rowOf ⟨t.val - 1, Nat.lt_of_le_of_lt (Nat.sub_le _ _) t.isLt⟩ r = rowOf t r := by
      simp only [rowOf, Fin.mk.injEq]; omega
    rw [this]
  by_cases h0 : t.val % 8 = 0
  · rw [outsAt0_A m c t h0 (by omega)]; frame_out
    rw [if_pos h0]
    refine (add_entry m c t (k0_pay1 (iblk m c 0 t) (iblk m c 1 t)) (k0_pay2 (F := Ideal)) (norm_entry m c t) r q).trans ?_
    have hz : k0_pay2 (F := Ideal) (ix2 r q) = 0 := by pointwise [k0_pay2]
    rw [hz]
  · rw [if_neg h0]
    by_cases h1 : t.val % 8 = 7
    · rw [outsAt0_C m c t h0 h1]; frame_out
      rw [read_unread_whole, read_unread_whole]
      exact add_entry m c t _ _ (hk h0) r q
    · rw [outsAt0_B m c t h0 h1]; frame_out
      rw [read_unread_whole, read_unread_whole]
      exact add_entry m c t _ _ (hk h0) r q

/-- The accumulator at a run's last point: the whole sum over the hidden numbers. -/
theorem acc_last (c : Dev nD) (t : Fin cfg0.N) (h7 : t.val % 8 = 7) (r : Fin 512) (q : Fin 2048) :
    (outsAt0 m c t.val t.isLt).2.2 (ix2 r q)
      = ∑ a : Fin 8192, Ffn.hidden (Ffn.norm (fun d => m ((c : Thread nD τ).loc main_arg0) (ix2 (rowOf t r) d))
          (fun d => m ((c : Thread nD τ).loc main_arg1) (ix1 d)))
        (fun d => m ((c : Thread nD τ).loc main_arg2) (ix2 d a)) * m ((c : Thread nD τ).loc main_arg3) (ix2 a q) := by
  have hrun := Pipeline.eq_sum_fin_of_reset_step_apply_of_flush (fun n h => (outsAt0 m c n h).2.2) 8
    (fun _ : S512x2048.Idx => (0 : EReal)) (fun t (y : S512x2048.Idx) => term m c t (y 0) (y 1))
    (fun t h i => by
      obtain ⟨r, q, rfl⟩ : ∃ r q, i = ix2 r q := ⟨_, _, (ix2_eta i).symm⟩
      exact (acc_step m c t r q).trans (by rw [if_pos h]; rfl))
    (fun t h i => by
      obtain ⟨r, q, rfl⟩ : ∃ r q, i = ix2 r q := ⟨_, _, (ix2_eta i).symm⟩
      exact (acc_step m c t r q).trans (by rw [if_neg h]; rfl)) t h7 (ix2 r q)
  refine hrun.trans ((zero_add _).trans ?_)
  refine Fin.sum_mul_add_congr fun s k hl => ?_
  have hN : cfg0.N = 256 := by decide +kernel
  have hs := s.isLt
  have hlt := Pipeline.run_point_lt_of_flush t h7 s
  have hr : rowOf ⟨_, hlt⟩ r = rowOf t r := by
    simp only [rowOf, Fin.mk.injEq]; omega
  have ha : s.val * 1024 + k.val = (8 * (t.val / 8) + s.val) % 8 * 1024 + k.val := by omega
  have e1 := fun d => w1_entry m c ⟨_, hlt⟩ d k ⟨_, hl⟩ ha
  have e2 := w2_entry m c ⟨_, hlt⟩ k q ⟨_, hl⟩ ha
  show Ffn.hidden (Ffn.norm (fun d => m ((c : Thread nD τ).loc main_arg0) (ix2 (rowOf ⟨_, hlt⟩ r) d)) _)
    (fun d => (iblk m c 2 ⟨_, hlt⟩ : FVec Ideal S2048x1024 .bf16) (ix2 d k))
      * (iblk m c 3 ⟨_, hlt⟩ : FVec Ideal S1024x2048 .bf16) (ix2 k q) = _
  rw [hr, e2, funext e1]

/-- One block of the output holds the layer's rows. -/
theorem point (c : Dev nD) (t : Fin cfg0.N) (h7 : t.val % 8 = 7) (y : S512x2048.Idx) :
    k0_pay4 (F := Ideal) (iblk m c 0 t) (outsAt0 m c t.val t.isLt).2.2 (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  obtain ⟨r, q, rfl⟩ : ∃ r q, y = ix2 r q := ⟨_, _, (ix2_eta y).symm⟩
  have he : ((cfg0.win 5).blk t).view.emb (ix2 r q) = ix2 (rowOf t r) q := by
    blk_ext [rowOf, idx t]
  have hf := fg_entry m c t q
  have ho : ∀ d, @HAdd.hAdd EReal EReal EReal _ (iblk m c 0 t (ix2 r d)) ((outsAt0 m c t.val t.isLt).2.2 (ix2 r d))
      = OUT (m ((c : Thread nD τ).loc main_arg0)) (m ((c : Thread nD τ).loc main_arg1)) (m ((c : Thread nD τ).loc main_arg2))
          (m ((c : Thread nD τ).loc main_arg3)) (rowOf t r) d := fun d => by
    rw [x_entry m c t r d, acc_last m c t h7 r d]
    rfl
  rw [he]
  show _ = Ffn.norm (OUT _ _ _ _ (rowOf t r)) _ q
  generalize (outsAt0 m c t.val t.isLt).2.2 = acc at ho ⊢
  pointwise [k0_pay4]
  simp only [Ffn.norm, Ffn.scale, ho, hf]

/-- The result array after the run. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have h7 := (flush0_5 t).mp hf
  have := point m c t h7 y
  rw [outsAt0_C m c t (by omega) h7] at this
  rw [after0_5, outsAt0_C m c t (by omega) h7]
  revert this
  frame_out
  exact id

/-- The reference's array operations over its arguments. -/
def HOST (x : FVec Ideal S16384x2048 .f32) (g : FVec Ideal S2048 .f32) (w1 : FVec Ideal S2048x8192 .f32)
    (w2 : FVec Ideal S8192x2048 .f32) (fg : FVec Ideal S2048 .f32) : FVec Ideal S16384x2048 .f32 :=
  have ms : FVec Ideal Cert.FfnReferenceIdeal.S16384x1 .f32 :=
    Host.rsqrt (addf (Host.divf (broadcastInDim Cert.FfnReferenceIdeal.S16384x1 ![0] Cert.FfnReferenceIdeal.Gen.bcast_S16384_S16384x1_0
        (Host.reduceAdd (mulf x x) (constant Cert.FfnReferenceIdeal.S_ .f32 0#32)
          Cert.FfnReferenceIdeal.Gen.reducesTo_S16384x2048_S16384_d1 Cert.FfnReferenceIdeal.Gen.h_S_))
        (broadcastInDim Cert.FfnReferenceIdeal.S16384x1 ![] Cert.FfnReferenceIdeal.Gen.bcast_S_S16384x1 (constant Cert.FfnReferenceIdeal.S_ .f32 0x45000000#32)))
      (broadcastInDim Cert.FfnReferenceIdeal.S16384x1 ![] Cert.FfnReferenceIdeal.Gen.bcast_S_S16384x1 (constant Cert.FfnReferenceIdeal.S_ .f32 0x358637BD#32)))
  have xn : FVec Ideal S16384x2048 .f32 :=
    mulf (mulf x (broadcastInDim Cert.FfnReferenceIdeal.S16384x2048 ![0, 1] Cert.FfnReferenceIdeal.Gen.bcast_S16384x1_S16384x2048_0_1 ms))
      (broadcastInDim Cert.FfnReferenceIdeal.S16384x2048 ![0, 1] Cert.FfnReferenceIdeal.Gen.bcast_S1x2048_S16384x2048_0_1
        (broadcastInDim Cert.FfnReferenceIdeal.S1x2048 ![1] Cert.FfnReferenceIdeal.Gen.bcast_S2048_S1x2048_1 g))
  have h : FVec Ideal Cert.FfnReferenceIdeal.S16384x8192 .f32 :=
    maximumf (Host.dotGeneral Cert.FfnReferenceIdeal.dot_S16384x2048_S2048x8192_S16384x8192_1_0_0_1_n_n none xn w1)
      (broadcastInDim Cert.FfnReferenceIdeal.S16384x8192 ![] Cert.FfnReferenceIdeal.Gen.bcast_S_S16384x8192 (constant Cert.FfnReferenceIdeal.S_ .f32 0#32))
  have o : FVec Ideal S16384x2048 .f32 :=
    addf x (Host.dotGeneral Cert.FfnReferenceIdeal.dot_S16384x8192_S8192x2048_S16384x2048_1_0_0_1_n_n none (mulf h h) w2)
  have mo : FVec Ideal Cert.FfnReferenceIdeal.S16384x1 .f32 :=
    Host.rsqrt (addf (Host.divf (broadcastInDim Cert.FfnReferenceIdeal.S16384x1 ![0] Cert.FfnReferenceIdeal.Gen.bcast_S16384_S16384x1_0
        (Host.reduceAdd (mulf o o) (constant Cert.FfnReferenceIdeal.S_ .f32 0#32)
          Cert.FfnReferenceIdeal.Gen.reducesTo_S16384x2048_S16384_d1 Cert.FfnReferenceIdeal.Gen.h_S_))
        (broadcastInDim Cert.FfnReferenceIdeal.S16384x1 ![] Cert.FfnReferenceIdeal.Gen.bcast_S_S16384x1 (constant Cert.FfnReferenceIdeal.S_ .f32 0x45000000#32)))
      (broadcastInDim Cert.FfnReferenceIdeal.S16384x1 ![] Cert.FfnReferenceIdeal.Gen.bcast_S_S16384x1 (constant Cert.FfnReferenceIdeal.S_ .f32 0x358637BD#32)))
  mulf (mulf o (broadcastInDim Cert.FfnReferenceIdeal.S16384x2048 ![0, 1] Cert.FfnReferenceIdeal.Gen.bcast_S16384x1_S16384x2048_0_1 mo))
      (broadcastInDim Cert.FfnReferenceIdeal.S16384x2048 ![0, 1] Cert.FfnReferenceIdeal.Gen.bcast_S1x2048_S16384x2048_0_1
        (broadcastInDim Cert.FfnReferenceIdeal.S1x2048 ![1] Cert.FfnReferenceIdeal.Gen.bcast_S2048_S1x2048_1 fg))

/-- They hold the same rows. -/
theorem host_eq (x : FVec Ideal S16384x2048 .f32) (g : FVec Ideal S2048 .f32) (w1 : FVec Ideal S2048x8192 .f32)
    (w2 : FVec Ideal S8192x2048 .f32) (fg : FVec Ideal S2048 .f32) : HOST x g w1 w2 fg = REF x g w1 w2 fg := by
  funext y
  obtain ⟨r, q, rfl⟩ : ∃ r q, y = ix2 r q := ⟨_, _, (ix2_eta y).symm⟩
  show _ = Ffn.norm (OUT x g w1 w2 r) (fun d => fg (ix1 d)) q
  unfold OUT Ffn.norm Ffn.scale Ffn.row Ffn.hidden Ffn.norm Ffn.scale
  pointwise [HOST]

end Cert.Proof.FfnValue

end
-- ==== Proof.Sgu.Math.lean ====
/- The spatial gating of an even layer: one group of 128 columns on one chunk of 128 positions, and the whole call. -/
module

public import Idealize.ShloMosaic.Lib.Pipeline.ValueKit
public import Idealize.ShloMosaic.Lib.Pointwise
public import Idealize.ShloMosaic.Lib.WordCmp

@[expose] public section

noncomputable section

open Idealize.ShloMosaic

namespace Cert.Proof.Sgu

/-- The exact GELU. -/
def gelu (x : EReal) : EReal :=
  Ideal.ofBits .f32 0x3F000000#32 * x * (1 + Ideal.erf (x * Ideal.ofBits .f32 0x3F3504F3#32))

/-- The GELU through the complementary error function. -/
theorem gelu_eq (x : EReal) :
    Ideal.ofBits .f32 0x3F000000#32 * x * Ideal.erfc (-x * Ideal.ofBits .f32 0x3F3504F3#32) = gelu x := by
  rw [EReal.neg_mul, Ideal.erfc_neg]
  rfl

/-- The mean of 128 entries. -/
def mean (v : Fin 128 → EReal) : EReal := Ideal.div (∑ c : Fin 128, v c) (Ideal.ofBits .f32 0x43000000#32)

/-- The layer normalisation of 128 entries. -/
def normed (v g : Fin 128 → EReal) (c : Fin 128) : EReal :=
  (v c - mean v) * Ideal.rsqrt (mean (fun c => (v c - mean v) * (v c - mean v)) + Ideal.ofBits .f32 0x358637BD#32) * g c

/-- One entry of one group on one chunk: the gate times the causal mix of the normalised positions. -/
def mixed (u : EReal) (v : Fin 128 → Fin 128 → EReal) (g : Fin 128 → EReal) (w : Fin 128 → EReal) (b : EReal) (t c : Fin 128) : EReal :=
  gelu u * ((∑ s : Fin 128, (if s.val ≤ t.val then w s else 0) * normed (fun c => gelu (v s c)) g c) + b)

/-- The arrays: the layer's projection, the normalisations' weights, the mixing weights and their biases. -/
structure Arrays where
  x : Fin 16384 → Fin 5120 → EReal
  g : Fin 8 → Fin 128 → EReal
  w : Fin 8 → Fin 128 → Fin 128 → EReal
  b : Fin 8 → Fin 128 → EReal

namespace Arrays

variable (A : Arrays)

/-- The row of position `t` of chunk `n`. -/
abbrev row (n t : Fin 128) : Fin 16384 := ⟨n.val * 128 + t.val, by omega⟩

/-- A result entry. -/
def result (n : Fin 128) (h : Fin 8) (t c : Fin 128) : EReal :=
  mixed (A.x (row n t) ⟨h.val * 128 + c.val, by omega⟩) (fun s c => A.x (row n s) ⟨1024 + (h.val * 128 + c.val), by omega⟩)
    (A.g h) (A.w h t) (A.b h t) t c

end Arrays

/-- The call's arrays, as functions of their coordinates. -/
def arrays (x : FVec Ideal ⟨2, ![16384, 5120]⟩ .f32) (g : FVec Ideal ⟨2, ![8, 128]⟩ .f32) (w : FVec Ideal ⟨3, ![8, 128, 128]⟩ .f32)
    (b : FVec Ideal ⟨2, ![8, 128]⟩ .f32) : Arrays where
  x := fun r c => x (ix2 r c)
  g := fun h c => g (ix2 h c)
  w := fun h t s => w (ix3 h t s)
  b := fun h t => b (ix2 h t)

/-- A chunk's entries of the result. -/
def resultAt (A : Arrays) (n : Fin 128) (y : (⟨2, ![128, 1024]⟩ : Shape).Idx) : EReal :=
  A.result n ⟨(y 1).val / 128, by have : (y 1).val < 1024 := (y 1).isLt; omega⟩ ⟨(y 0).val, (y 0).isLt⟩
    ⟨(y 1).val % 128, Nat.mod_lt _ (by decide)⟩

/-- The call's result as an array. -/
def resultArray (A : Arrays) (y : (⟨2, ![16384, 1024]⟩ : Shape).Idx) : EReal :=
  A.result ⟨(y 0).val / 128, by have : (y 0).val < 16384 := (y 0).isLt; omega⟩
    ⟨(y 1).val / 128, by have : (y 1).val < 1024 := (y 1).isLt; omega⟩ ⟨(y 0).val % 128, Nat.mod_lt _ (by decide)⟩
    ⟨(y 1).val % 128, Nat.mod_lt _ (by decide)⟩

end Cert.Proof.Sgu

end
-- ==== Proof.Sgu.Kernel.lean ====
/- The spatial gating of the kernel, over its arrays: eight groups of columns at every point. -/
module

public import proofs.«01_k».proof.Proof.Sgu.Math
public import proofs.«01_k».proof.Proof.Gen.SguKernelIdeal.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Sgu

open Cert.SguKernelIdeal Cert.SguKernelIdeal.Gen

section Group

variable (u v : Vec Ideal S128x128 .f32) (g : Vec Ideal S1x128 .f32) (w : Vec Ideal S1x128x128 .f32) (b : Vec Ideal S128x1 .f32)

/-- One group's block, as the first group computes it. -/
def group : Vec Ideal S128x128 .bf16 := k0_pay5 (F := Ideal) (k0_pay3 v g w) (k0_pay4 b) u

theorem masked (i j : Fin 128) (x y : EReal) :
    Scalar.select (IntOp.cmpi .sle (BitVec.ofNat 32 j.val) (BitVec.ofNat 32 i.val)) x y = if j.val ≤ i.val then x else y := by
  rw [WordCmp.cmpi_sle_ofNat (by omega) (by omega), WordCmp.select_decide]

theorem ite_mul_zero (p : Prop) [Decidable p] (x y : EReal) : (if p then x else 0) * y = if p then x * y else 0 := by
  split
  · rfl
  · exact zero_mul _

theorem group1 : k0_pay7 (F := Ideal) k0_pay2 (k0_pay6 v) g w b u = group u v g w b := by
  delta group k0_pay7 k0_pay6 k0_pay5 k0_pay4 k0_pay3 k0_pay2; rfl

theorem group2 : k0_pay10 (F := Ideal) k0_pay2 (k0_pay8 v) (k0_pay9 v) g w b u = group u v g w b := by
  delta group k0_pay10 k0_pay9 k0_pay8 k0_pay5 k0_pay4 k0_pay3 k0_pay2; rfl

theorem group3 : k0_pay12 (F := Ideal) (k0_pay11 k0_pay2 v g w b) u (Scalar.ofBits .f32 0x3F000000#32) = group u v g w b := by
  delta group k0_pay12 k0_pay11 k0_pay5 k0_pay4 k0_pay3 k0_pay2; rfl

theorem group4 : k0_pay14 (F := Ideal) k0_pay2 (k0_pay13 v g) w b u = group u v g w b := by
  delta group k0_pay14 k0_pay13 k0_pay5 k0_pay4 k0_pay3 k0_pay2; rfl

theorem group5 : k0_pay17 (F := Ideal) k0_pay2 (k0_pay15 v) (k0_pay16 v) g w b u = group u v g w b := by
  delta group k0_pay17 k0_pay16 k0_pay15 k0_pay5 k0_pay4 k0_pay3 k0_pay2; rfl

theorem group6 : k0_pay23 (F := Ideal) (k0_pay20 k0_pay2 v (k0_pay18 v) k0_pay19 g w b) (k0_pay21 u) (k0_pay22 u) = group u v g w b := by
  delta group k0_pay23 k0_pay22 k0_pay21 k0_pay20 k0_pay19 k0_pay18 k0_pay5 k0_pay4 k0_pay3 k0_pay2; rfl

theorem group7 : k0_pay1 (F := Ideal) (k0_pay24 k0_pay2 w) (k0_pay25 v g) b u = group u v g w b := by
  delta group k0_pay1 k0_pay25 k0_pay24 k0_pay5 k0_pay4 k0_pay3 k0_pay2; rfl

theorem group_apply (t c : Fin 128) :
    group u v g w b (ix2 t c) = mixed (u (ix2 t c)) (fun s c => v (ix2 s c)) (fun c => g (ix2 0 c)) (fun s => w (ix3 0 t s)) (b (ix2 t 0)) t c := by
  pointwise [group, k0_pay5, k0_pay4, k0_pay3, k0_pay2]
  simp only [masked, mixed, gelu, normed, mean, ite_mul_zero]
  rfl

end Group

variable (m : (ℓ : Loc nD τ sig) → Buf (Elt Ideal) ℓ)

/-- The arrays the kernel is launched on. -/
abbrev at0 (c : Dev nD) : Arrays :=
  arrays (m ((c : Thread nD τ).loc main_arg0)) (m ((c : Thread nD τ).loc main_arg1)) (m ((c : Thread nD τ).loc main_arg2))
    (m ((c : Thread nD τ).loc main_arg3))

/-- Every window's block index at a point. -/
theorem idx : ∀ t : Fin cfg0.N, win0_0.index t = ![t.val, 0] ∧ win0_1.index t = ![t.val, 1] ∧ win0_2.index t = ![0, 0] ∧
    win0_3.index t = ![0, 0, 0] ∧ win0_4.index t = ![0, 0] ∧ win0_5.index t = ![t.val, 0] :=
  (by decide +kernel : ∀ t : Fin grid0.N, _)

theorem points (t : Fin cfg0.N) : t.val < 128 := lt_of_lt_of_eq t.isLt (by decide +kernel)

/-- The chunk a point works on. -/
def chunkOf (t : Fin cfg0.N) : Fin 128 := ⟨t.val, points t⟩

theorem u_entry (c : Dev nD) (t : Fin cfg0.N) (i : Fin 128) (d : Fin 1024) :
    (iblk m c 0 t : FVec Ideal S128x1024 .f32) (ix2 i d) = (at0 m c).x (Arrays.row (chunkOf t) i) ⟨d.val, by omega⟩ := by
  simp only [arrays, Arrays.row, chunkOf]
  blk_point [iblk, V, idx t]

theorem v_entry (c : Dev nD) (t : Fin cfg0.N) (i : Fin 128) (d : Fin 1024) :
    (iblk m c 1 t : FVec Ideal S128x1024 .f32) (ix2 i d) = (at0 m c).x (Arrays.row (chunkOf t) i) ⟨1024 + d.val, by omega⟩ := by
  simp only [arrays, Arrays.row, chunkOf]
  blk_point [iblk, V, idx t]

theorem g_entry (c : Dev nD) (t : Fin cfg0.N) (h : Fin 8) (d : Fin 128) :
    (iblk m c 2 t : FVec Ideal S8x128 .f32) (ix2 h d) = (at0 m c).g h d := by
  simp only [arrays]
  blk_point [iblk, V, idx t]

theorem w_entry (c : Dev nD) (t : Fin cfg0.N) (h : Fin 8) (i s : Fin 128) :
    (iblk m c 3 t : FVec Ideal S8x128x128 .f32) (ix3 h i s) = (at0 m c).w h i s := by
  simp only [arrays]
  blk_point [iblk, V, idx t]

/-- The biases as the call finds them. -/
theorem bias_read (c : Dev nD) : (V m c main_v0 : FVec Ideal S128x8 .f32)
    = transpose S128x8 [1, 0] (m ((c : Thread nD τ).loc main_arg3) : FVec Ideal S8x128 .f32) transposes_S8x128_S128x8_1_0 := by
  delta V
  simp only [hostOps0, List.flatten_cons, List.flatten_nil, List.append_nil, List.cons_append, List.nil_append]
  after_results

theorem b_entry (c : Dev nD) (t : Fin cfg0.N) (i : Fin 128) (h : Fin 8) :
    (iblk m c 4 t : FVec Ideal S128x8 .f32) (ix2 i h) = (at0 m c).b h i := by
  simp only [arrays]
  blk_simp [iblk, idx t]
  rw [bias_read]
  pointwise
  all_goals blk_ext [idx t]

/-! ## One group's loads and its piece of the block -/

theorem placed2 {r w o : ℕ} {i : Fin r} {d : Fin w} {R C : ℕ} {hi : i.val < R} {hd : o + d.val < C} (a : Fin 2) :
    ((ix2 (⟨i.val, hi⟩ : Fin R) (⟨o + d.val, hd⟩ : Fin C) : Shape.Idx ⟨2, ![R, C]⟩) a : ℕ) = ![0, o] a + (ix2 i d : Shape.Idx ⟨2, ![r, w]⟩) a := by
  fin_cases a
  · exact (Nat.zero_add _).symm
  · rfl

theorem placedG (h : Fin 8) (d : Fin 128) (a : Fin 2) :
    ((ix2 h d : S8x128.Idx) a : ℕ) = ![h.val, 0] a + (ix2 0 d : S1x128.Idx) a := by
  fin_cases a
  · rfl
  · exact (Nat.zero_add _).symm

theorem placedW (h : Fin 8) (i s : Fin 128) (a : Fin 3) :
    ((ix3 h i s : S8x128x128.Idx) a : ℕ) = ![h.val, 0, 0] a + (ix3 0 i s : S1x128x128.Idx) a := by
  fin_cases a
  · rfl
  · exact (Nat.zero_add _).symm
  · exact (Nat.zero_add _).symm

theorem placedB (h : Fin 8) (i : Fin 128) (a : Fin 2) :
    ((ix2 i h : S128x8.Idx) a : ℕ) = ![0, h.val] a + (ix2 i 0 : S128x1.Idx) a := by
  fin_cases a
  · exact (Nat.zero_add _).symm
  · rfl

/-- Group `h`'s columns of the result's rows. -/
theorem resultAt_emb (A : Arrays) (n : Fin 128) (h : Fin 8) (i e : Fin 128) {inb} :
    resultAt A n ((Rect.unit (s := S128x1024) ![0, h.val * 128] ![128, 128] inb).emb (ix2 i e)) = A.result n h i e := by
  have e0 : ((Rect.unit (s := S128x1024) ![0, h.val * 128] ![128, 128] inb).emb (ix2 i e)) = ix2 i ⟨h.val * 128 + e.val, by omega⟩ :=
    funext fun a => Fin.ext ((Rect.idx_unit_val _ _ inb (ix2 i e) a).trans (placed2 a).symm)
  rw [e0]
  have e1 : (⟨(h.val * 128 + e.val) / 128, by omega⟩ : Fin 8) = h := Fin.ext (by show (h.val * 128 + e.val) / 128 = h.val; omega)
  have e2 : (⟨(h.val * 128 + e.val) % 128, Nat.mod_lt _ (by decide)⟩ : Fin 128) = e := Fin.ext (by show (h.val * 128 + e.val) % 128 = e.val; omega)
  show A.result n ⟨(h.val * 128 + e.val) / 128, _⟩ i ⟨(h.val * 128 + e.val) % 128, _⟩ = _
  rw [e1, e2]

/-- The block of group `h`, computed from its loads, is its piece of the result. -/
theorem group_point (c : Dev nD) (t : Fin cfg0.N) (h : Fin 8) {i0 i1 i2 i3} (i e : Fin 128) :
    group (View.ld (iblk m c 0 t : Vec Ideal S128x1024 .f32) (Rect.unit (s := S128x1024) ![0, h.val * 128] S128x128.size i0))
      (View.ld (iblk m c 1 t : Vec Ideal S128x1024 .f32) (Rect.unit (s := S128x1024) ![0, h.val * 128] S128x128.size i0))
      (View.ld (iblk m c 2 t : Vec Ideal S8x128 .f32) (Rect.unit (s := S8x128) ![h.val, 0] S1x128.size i1))
      (View.ld (iblk m c 3 t : Vec Ideal S8x128x128 .f32) (Rect.unit (s := S8x128x128) ![h.val, 0, 0] S1x128x128.size i2))
      (View.ld (iblk m c 4 t : Vec Ideal S128x8 .f32) (Rect.unit (s := S128x8) ![0, h.val] S128x1.size i3)) (ix2 i e)
      = resultAt (at0 m c) (chunkOf t) ((Rect.unit (s := S128x1024) ![0, h.val * 128] S128x128.size i0).emb (ix2 i e)) := by
  refine (group_apply _ _ _ _ _ i e).trans (Eq.trans ?_ (resultAt_emb _ _ h i e (inb := i0)).symm)
  have hu (i e : Fin 128) := (View.ld_unit_apply_of (iblk m c 0 t : Vec Ideal S128x1024 .f32) _ _ i0 (ix2 i e) (ix2 i ⟨h.val * 128 + e.val, by omega⟩) (by exact placed2)).trans (u_entry m c t i ⟨h.val * 128 + e.val, by omega⟩)
  have hv (i e : Fin 128) := (View.ld_unit_apply_of (iblk m c 1 t : Vec Ideal S128x1024 .f32) _ _ i0 (ix2 i e) (ix2 i ⟨h.val * 128 + e.val, by omega⟩) (by exact placed2)).trans (v_entry m c t i ⟨h.val * 128 + e.val, by omega⟩)
  have hg (e : Fin 128) := (View.ld_unit_apply_of (iblk m c 2 t : Vec Ideal S8x128 .f32) _ _ i1 (ix2 0 e) (ix2 h e) (placedG h e)).trans (g_entry m c t h e)
  have hw (s : Fin 128) := (View.ld_unit_apply_of (iblk m c 3 t : Vec Ideal S8x128x128 .f32) _ _ i2 (ix3 0 i s) (ix3 h i s) (placedW h i s)).trans (w_entry m c t h i s)
  have hb := (View.ld_unit_apply_of (iblk m c 4 t : Vec Ideal S128x8 .f32) _ _ i3 (ix2 i 0) (ix2 i h) (placedB h i)).trans (b_entry m c t i h)
  rw [Arrays.result]
  congr 1
  · exact hu i e
  · exact funext fun i => funext fun e => hv i e
  · exact funext fun e => hg e
  · exact funext fun s => hw s

theorem point (c : Dev nD) (t : Fin cfg0.N) (y : S128x1024.Idx) :
    out0_5 (F := Ideal) (iblk m c 0 t) (iblk m c 1 t) (iblk m c 2 t) (iblk m c 3 t) (iblk m c 4 t) y = resultAt (at0 m c) (chunkOf t) y := by
  unfold_out out0_5
  refine View.canon_append_of_piecesOf (Val := Elt Ideal) (s := S128x1024) (e := .bf16) (resultAt (at0 m c) (chunkOf t))
    [] [_, _, _, _, _, _, _, _] ⟨?_, ?_, ?_, ?_, ?_, ?_, ?_, ?_, trivial⟩ y ?cov
  case cov => exact View.cover_of_tiled_head _ _ _ (by rfl) y
  all_goals intro x
  all_goals obtain ⟨i, e, rfl⟩ : ∃ i e, x = ix2 i e := ⟨x 0, x 1, (ix2_eta x).symm⟩
  · exact (congrFun (group7 _ _ _ _ _) (ix2 i e)).trans (group_point m c t 7 i e)
  · exact (congrFun (group6 _ _ _ _ _) (ix2 i e)).trans (group_point m c t 6 i e)
  · exact (congrFun (group5 _ _ _ _ _) (ix2 i e)).trans (group_point m c t 5 i e)
  · exact (congrFun (group4 _ _ _ _ _) (ix2 i e)).trans (group_point m c t 4 i e)
  · exact (congrFun (group3 _ _ _ _ _) (ix2 i e)).trans (group_point m c t 3 i e)
  · exact (congrFun (group2 _ _ _ _ _) (ix2 i e)).trans (group_point m c t 2 i e)
  · exact (congrFun (group1 _ _ _ _ _) (ix2 i e)).trans (group_point m c t 1 i e)
  · exact group_point m c t 0 i e

theorem final (c : Dev nD) : (dats m 0 c).arrAt 5 (cfgs 0).N = resultArray (at0 m c) := by
  refine (dats m 0 c).arrAt_eq_of_covers 5 _ (by decide +kernel) fun t _ y => ?_
  have h := point m c t y
  obtain ⟨i, q, rfl⟩ : ∃ i q, y = ix2 i q := ⟨_, _, (ix2_eta y).symm⟩
  have ht := points t
  have e : ((cfg0.win 5).blk t).view.emb (ix2 i q) = ix2 (⟨t.val * 128 + i.val, by omega⟩ : Fin 16384) q := by blk_ext [idx t]
  show _ = resultArray (at0 m c) (((cfg0.win 5).blk t).view.emb (ix2 i q))
  rw [e, after0_5]
  refine h.trans ?_
  have e1 : (⟨(t.val * 128 + i.val) / 128, by omega⟩ : Fin 128) = chunkOf t := Fin.ext (by show (t.val * 128 + i.val) / 128 = t.val; omega)
  have e2 : (⟨(t.val * 128 + i.val) % 128, Nat.mod_lt _ (by decide)⟩ : Fin 128) = i := Fin.ext (by show (t.val * 128 + i.val) % 128 = i.val; omega)
  show _ = (at0 m c).result ⟨(t.val * 128 + i.val) / 128, _⟩ _ ⟨(t.val * 128 + i.val) % 128, _⟩ _
  rw [e1, e2]
  rfl

end Cert.Proof.Sgu

end
-- ==== Proof.Sgu.Reference.lean ====
/- The reference's spatial gating, over its arrays. -/
module

public import proofs.«01_k».proof.Proof.Sgu.Math
public import proofs.«01_k».proof.Proof.Gen.SguReferenceIdeal.Run

@[expose] public section

set_option maxRecDepth 16384

noncomputable section

open Idealize.ShloMosaic Idealize.ShloMosaic.TcCoe Idealize.SL.Sem

namespace Cert.Proof.SguReference

open Cert.SguReferenceIdeal Cert.SguReferenceIdeal.Gen Cert.SguReferenceIdeal.Value Cert.Proof.Sgu

/-- The GELU of the projection's first 1024 columns, by group. -/
def gates (p : FVec Ideal S16384x5120 .f32) : FVec Ideal S4x4096x8x128 .f32 :=
  shapeCast S4x4096x8x128 (mulf (mulf (broadcastInDim S16384x1024 ![] bcast_S_S16384x1024 (constant S_ .f32 0x3F000000#32)) (extractStridedSlice S16384x1024 ![0, 0] p slices_S16384x5120_S16384x1024_0_0)) (Host.erfc (mulf (Host.negf (extractStridedSlice S16384x1024 ![0, 0] p slices_S16384x5120_S16384x1024_0_0)) (broadcastInDim S16384x1024 ![] bcast_S_S16384x1024 (constant S_ .f32 0x3F3504F3#32))))) shapeCasts_S16384x1024_S4x4096x8x128

/-- The GELU of the projection's next 1024 columns, by group. -/
def values (p : FVec Ideal S16384x5120 .f32) : FVec Ideal S4x4096x8x128 .f32 :=
  shapeCast S4x4096x8x128 (mulf (mulf (broadcastInDim S16384x1024 ![] bcast_S_S16384x1024 (constant S_ .f32 0x3F000000#32)) (extractStridedSlice S16384x1024 ![0, 1024] p slices_S16384x5120_S16384x1024_0_1024)) (Host.erfc (mulf (Host.negf (extractStridedSlice S16384x1024 ![0, 1024] p slices_S16384x5120_S16384x1024_0_1024)) (broadcastInDim S16384x1024 ![] bcast_S_S16384x1024 (constant S_ .f32 0x3F3504F3#32))))) shapeCasts_S16384x1024_S4x4096x8x128

/-- The means over the groups' columns. -/
def means (v : FVec Ideal S4x4096x8x128 .f32) : FVec Ideal S4x4096x8x1 .f32 :=
  Host.divf (broadcastInDim S4x4096x8x1 ![0, 1, 2] bcast_S4x4096x8_S4x4096x8x1_0_1_2 (Host.reduceAdd v (constant S_ .f32 0x00000000#32) reducesTo_S4x4096x8x128_S4x4096x8_d3 h_S_)) (broadcastInDim S4x4096x8x1 ![] bcast_S_S4x4096x8x1 (constant S_ .f32 0x43000000#32))

/-- The values less their means. -/
def centred (v : FVec Ideal S4x4096x8x128 .f32) : FVec Ideal S4x4096x8x128 .f32 :=
  subf v (broadcastInDim S4x4096x8x128 ![0, 1, 2, 3] bcast_S4x4096x8x1_S4x4096x8x128_0_1_2_3 (means v))

/-- The normalised values. -/
def norms (v : FVec Ideal S4x4096x8x128 .f32) (g : FVec Ideal S8x128 .f32) : FVec Ideal S4x4096x8x128 .f32 :=
  mulf (mulf (centred v) (broadcastInDim S4x4096x8x128 ![0, 1, 2, 3] bcast_S4x4096x8x1_S4x4096x8x128_0_1_2_3 (Host.rsqrt (addf (means (mulf (centred v) (centred v))) (broadcastInDim S4x4096x8x1 ![] bcast_S_S4x4096x8x1 (constant S_ .f32 0x358637BD#32))))))
    (broadcastInDim S4x4096x8x128 ![0, 1, 2, 3] bcast_S1x1x8x128_S4x4096x8x128_0_1_2_3 (broadcastInDim S1x1x8x128 ![2, 3] bcast_S8x128_S1x1x8x128_2_3 g))

/-- The causal mixing weights. -/
def weights (w : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) w (broadcastInDim S8x128x128 ![] bcast_S_S8x128x128 (constant S_ .f32 0x00000000#32))

/-- The result from the gates, the normalised values, the mixing weights and the biases. -/
def gated (u n : FVec Ideal S4x4096x8x128 .f32) (w : FVec Ideal S8x128x128 .f32) (b : FVec Ideal S8x128 .f32) : FVec Ideal S16384x1024 .bf16 :=
  truncf .bf16 (shapeCast S16384x1024 (mulf u (shapeCast S4x4096x8x128 (addf (transpose S4x32x128x8x128 [1, 2, 4, 0, 3] (Host.dotGeneral dot_S4x32x128x8x128_S8x128x128_S8x4x32x128x128_2_2_014_1_3_0 none (shapeCast S4x32x128x8x128 n shapeCasts_S4x4096x8x128_S4x32x128x8x128) w) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] b transposes_S8x128_S128x8_1_0))))) shapeCasts_S4x32x128x8x128_S4x4096x8x128)) shapeCasts_S4x4096x8x128_S16384x1024) bitsLt_bf16_f32

theorem res_eq (m : (ℓ : Loc nD τ sig) → Buf (Elt Ideal) ℓ) (c : Dev nD) :
    res_main_v53 m c = gated (gates (m ((c.tc : Thread nD τ).loc main_arg0))) (norms (values (m ((c.tc : Thread nD τ).loc main_arg0))) (m ((c.tc : Thread nD τ).loc main_arg1)))
      (weights (m ((c.tc : Thread nD τ).loc main_arg2))) (m ((c.tc : Thread nD τ).loc main_arg3)) := by
  delta res_main_v53 gated gates norms centred means values weights
  rfl

theorem gates_apply (p : FVec Ideal S16384x5120 .f32) (b : Fin 4) (i : Fin 4096) (h : Fin 8) (c : Fin 128) :
    gates p (ix4 b i h c) = gelu (p (ix2 ⟨b.val * 4096 + i.val, by omega⟩ ⟨h.val * 128 + c.val, by omega⟩)) := by
  pointwise [gates]
  exact gelu_eq _

theorem values_apply (p : FVec Ideal S16384x5120 .f32) (b : Fin 4) (i : Fin 4096) (h : Fin 8) (c : Fin 128) :
    values p (ix4 b i h c) = gelu (p (ix2 ⟨b.val * 4096 + i.val, by omega⟩ ⟨1024 + (h.val * 128 + c.val), by omega⟩)) := by
  pointwise [values]
  exact gelu_eq _

theorem means_apply (v : FVec Ideal S4x4096x8x128 .f32) (b : Fin 4) (i : Fin 4096) (h : Fin 8) :
    means v (ix4 b i h 0) = mean (fun c => v (ix4 b i h c)) := by
  pointwise [means, mean]

theorem centred_apply (v : FVec Ideal S4x4096x8x128 .f32) (b : Fin 4) (i : Fin 4096) (h : Fin 8) (c : Fin 128) :
    centred v (ix4 b i h c) = @HSub.hSub EReal EReal EReal _ (v (ix4 b i h c)) (mean (fun c => v (ix4 b i h c))) := by
  rw [← means_apply]
  pointwise [centred]

theorem norms_apply (v : FVec Ideal S4x4096x8x128 .f32) (g : FVec Ideal S8x128 .f32) (b : Fin 4) (i : Fin 4096) (h : Fin 8) (c : Fin 128) :
    norms v g (ix4 b i h c) = normed (fun c => v (ix4 b i h c)) (fun c => g (ix2 h c)) c := by
  pointwise [norms]
  rw [means_apply, centred_apply]
  pointwise
  simp only [centred_apply]
  rfl

theorem weights_apply (w : FVec Ideal S8x128x128 .f32) (h : Fin 8) (t s : Fin 128) :
    weights w (ix3 h t s) = if s.val ≤ t.val then w (ix3 h t s) else (0 : EReal) := by
  pointwise [weights]
  rw [show IntOp.addi (BitVec.ofNat 32 t.val) 0#32 = BitVec.ofNat 32 t.val from BitVec.add_zero _,
    WordCmp.cmpi_sge_ofNat (by omega) (by omega), WordCmp.select_decide]
  by_cases h : s.val ≤ t.val
  · rw [if_pos h, if_pos h]; rfl
  · rw [if_neg h, if_neg h]; rfl

theorem gated_apply (u n : FVec Ideal S4x4096x8x128 .f32) (w : FVec Ideal S8x128x128 .f32) (b : FVec Ideal S8x128 .f32) (q : Fin 4) (N : Fin 32) (h : Fin 8) (t c : Fin 128) :
    gated u n w b (ix2 (⟨q.val * 4096 + (N.val * 128 + t.val), by omega⟩ : Fin 16384) (⟨h.val * 128 + c.val, by omega⟩ : Fin 1024))
      = @HMul.hMul EReal EReal EReal _ (u (ix4 q ⟨N.val * 128 + t.val, by omega⟩ h c))
        (@HAdd.hAdd EReal EReal EReal _ (∑ s : Fin 128, @HMul.hMul EReal EReal EReal _ (n (ix4 q ⟨N.val * 128 + s.val, by omega⟩ h c)) (w (ix3 h t s))) (b (ix2 h t))) := by
  pointwise [gated]
  simp only [show (q.val * 4096 + (N.val * 128 + t.val)) % 4096 = N.val * 128 + t.val by omega]

/-- The result at a chunk's position, in one group's column. -/
theorem result_apply (x : FVec Ideal S16384x5120 .f32) (g : FVec Ideal S8x128 .f32) (w : FVec Ideal S8x128x128 .f32) (b : FVec Ideal S8x128 .f32) (n : Fin 128) (h : Fin 8) (t c : Fin 128) :
    gated (gates x) (norms (values x) g) (weights w) b (ix2 (Arrays.row n t) (⟨h.val * 128 + c.val, by omega⟩ : Fin 1024))
      = (arrays x g w b).result n h t c := by
  have e (s : Fin 128) : (⟨n.val / 32 * 4096 + (n.val % 32 * 128 + s.val), by omega⟩ : Fin 16384) = Arrays.row n s :=
    Fin.ext (by show n.val / 32 * 4096 + (n.val % 32 * 128 + s.val) = n.val * 128 + s.val; omega)
  have k := gated_apply (gates x) (norms (values x) g) (weights w) b ⟨n.val / 32, by omega⟩ ⟨n.val % 32, by omega⟩ h t c
  simp only [norms_apply, values_apply, gates_apply, weights_apply, e] at k
  refine k.trans ?_
  simp only [Arrays.result, mixed, arrays]
  exact congrArg (gelu _ * ·) (congrArg (· + _) (Finset.sum_congr (M := EReal) rfl fun s _ => mul_comm _ _))

/-- The reference's result is the gating of its arrays. -/
theorem out_eq (m : (ℓ : Loc nD τ sig) → Buf (Elt Ideal) ℓ) (c : Dev nD) :
    res_main_v53 m c = resultArray (arrays (m ((c.tc : Thread nD τ).loc main_arg0)) (m ((c.tc : Thread nD τ).loc main_arg1))
      (m ((c.tc : Thread nD τ).loc main_arg2)) (m ((c.tc : Thread nD τ).loc main_arg3))) := by
  rw [res_eq]
  funext y
  obtain ⟨r, q, rfl⟩ : ∃ r q, y = ix2 r q := ⟨y 0, y 1, (ix2_eta y).symm⟩
  have er : r = Arrays.row ⟨r.val / 128, by omega⟩ ⟨r.val % 128, by omega⟩ :=
    Fin.ext (by show r.val = r.val / 128 * 128 + r.val % 128; omega)
  have eq : q = (⟨q.val / 128 * 128 + q.val % 128, by omega⟩ : Fin 1024) := Fin.ext (by show q.val = q.val / 128 * 128 + q.val % 128; omega)
  refine Eq.trans ?_ (result_apply _ _ _ _ ⟨r.val / 128, by omega⟩ ⟨q.val / 128, by omega⟩ ⟨r.val % 128, by omega⟩ ⟨q.val % 128, by omega⟩)
  rw [← er, ← eq]

end Cert.Proof.SguReference

end
-- ==== Proof.Gla.Math.lean ====
/- The gated linear attention of one head on one chunk of 64 positions, over the extended reals: running sums of the
   log gates, the output of a position, and the state the chunk hands on. -/
module

public import Idealize.ShloMosaic.Lib.Pipeline.ValueKit
public import Idealize.ShloMosaic.Lib.Claim
public import Idealize.ShloMosaic.Lib.Pointwise
public import Idealize.ShloMosaic.Lib.WordCmp

@[expose] public section

set_option maxRecDepth 16384

noncomputable section

open Idealize.ShloMosaic

namespace Cert.Proof.Gla

/-- The running sum of a column, up to and including row `i`. -/
def cum (f : Fin 64 → EReal) (i : Fin 64) : EReal := ∑ j : Fin 64, if j.val ≤ i.val then f j else 0

/-- The sum of the last `s` rows up to and including row `i`. -/
def window (s : ℕ) (f : Fin 64 → EReal) (i : Fin 64) : EReal :=
  ∑ j : Fin 64, if j.val ≤ i.val ∧ i.val < j.val + s then f j else 0

/-- One step of the doubling scan: every row from row `s` on takes in the row `s` above it. -/
def step (s : ℕ) (f : Fin 64 → EReal) (i : Fin 64) : EReal :=
  f i + Scalar.select (IntOp.cmpi .sge (BitVec.ofNat 32 i.val) (BitVec.ofNat 32 s))
    (f ⟨(i.val + 64 - s) % 64, Nat.mod_lt _ (by decide)⟩) 0

theorem step_window {s : ℕ} (hs : s < 64) (f : Fin 64 → EReal) : step s (window s f) = window (s + s) f := by
  funext i
  have hi := i.isLt
  rw [step, WordCmp.cmpi_sge_ofNat (by omega) (by omega), WordCmp.select_decide]
  by_cases h : s ≤ i.val
  · rw [if_pos h]
    have e : (i.val + 64 - s) % 64 = i.val - s := by omega
    simp only [window, e, ← Finset.sum_add_distrib]
    refine Finset.sum_congr rfl fun j _ => ?_
    by_cases h1 : j.val ≤ i.val ∧ i.val < j.val + s
    · rw [if_pos h1, if_neg (by omega), if_pos (by omega), add_zero]
    · rw [if_neg h1, zero_add]
      by_cases h2 : j.val ≤ i.val - s ∧ i.val - s < j.val + s
      · rw [if_pos h2, if_pos (by omega)]
      · rw [if_neg h2, if_neg (by omega)]
  · rw [if_neg h, add_zero]
    refine Finset.sum_congr rfl fun j _ => ?_
    by_cases h1 : j.val ≤ i.val
    · rw [if_pos (by omega), if_pos (by omega)]
    · rw [if_neg (by omega), if_neg (by omega)]

theorem window_one (f : Fin 64 → EReal) : window 1 f = f := by
  funext i
  refine (Finset.sum_eq_single i (fun j _ hj => if_neg fun h => hj (Fin.ext (by omega))) (by simp)).trans (if_pos ?_)
  omega

/-- Six doubling steps make the running sum. -/
theorem steps (f : Fin 64 → EReal) :
    step 32 (step 16 (step 8 (step 4 (step 2 (step 1 f))))) = cum f := by
  conv_lhs => rw [← window_one f]
  rw [step_window (by decide), step_window (by decide), step_window (by decide), step_window (by decide),
    step_window (by decide), step_window (by decide)]
  funext i
  have hi := i.isLt
  refine Finset.sum_congr rfl fun j _ => ?_
  by_cases h : j.val ≤ i.val
  · rw [if_pos (by omega), if_pos h]
  · rw [if_neg (by omega), if_neg h]

/-- The gate's logarithm before the temperature: the log of the logistic function. -/
def logSig (x : EReal) : EReal := min x 0 - Ideal.log1p (Ideal.exp (0 - max x (-x)))

/-- The log gate of an entry. -/
def logGate (x : EReal) : EReal := logSig x * Ideal.ofBits .f32 0x3D800000#32

theorem log1p_exp_nonneg (x : EReal) : 0 ≤ Ideal.log1p (Ideal.exp x) := by
  induction x with
  | bot => show 0 ≤ Ideal.log (1 + 0); rw [add_zero]; show (0 : EReal) ≤ (if (1 : ℝ) ≤ 0 then ⊥ else ((Real.log 1 : ℝ) : EReal)); rw [if_neg (by norm_num), Real.log_one]; exact le_refl _
  | top => show 0 ≤ Ideal.log (1 + ⊤); rw [EReal.add_top_of_ne_bot (by decide)]; exact le_top
  | coe r =>
    show 0 ≤ Ideal.log (((1 : ℝ) : EReal) + ((Real.exp r : ℝ) : EReal))
    rw [← EReal.coe_add]
    show (0 : EReal) ≤ (if (1 + Real.exp r : ℝ) ≤ 0 then ⊥ else ((Real.log (1 + Real.exp r) : ℝ) : EReal))
    have hp := Real.exp_pos r
    rw [if_neg (by linarith)]
    exact EReal.coe_nonneg.mpr (Real.log_nonneg (by linarith))

theorem sixteenth (x : EReal) :
    Ideal.div x (Ideal.ofBits .f32 0x41800000#32) = x * Ideal.ofBits .f32 0x3D800000#32 := by
  have h16 : Ideal.ofBits .f32 0x41800000#32 = ((16 : ℝ) : EReal) := by
    simp [Ideal.ofBits, Ideal.ieee]
    rw [← EReal.coe_mul]; norm_num
  have h1 : Ideal.ofBits .f32 0x3D800000#32 = (((1 : ℝ) / 16 : ℝ) : EReal) := by
    simp [Ideal.ofBits, Ideal.ieee]
    rw [← EReal.coe_mul]; norm_num
  rw [h16, h1, Ideal.div, if_neg (by norm_num), ← EReal.coe_inv]
  norm_num

/-- The reference's form of the log gate. -/
theorem logGate_eq (x : EReal) :
    Ideal.div (-(max (-x) 0 + Ideal.log1p (Ideal.exp (-(max (-x - 0) (-(-x - 0))))))) (Ideal.ofBits .f32 0x41800000#32)
      = logGate x := by
  rw [sixteenth, logGate, logSig]
  congr 1
  have e : -x - 0 = -x := by rw [sub_eq_add_neg, neg_zero, add_zero]
  have e' : (0 : EReal) - max x (-x) = -max x (-x) := by rw [sub_eq_add_neg, zero_add]
  have hm : min x 0 = -max (-x) 0 := by
    rcases le_total x 0 with h | h
    · rw [min_eq_left h, max_eq_left (by simpa using EReal.neg_le_neg_iff.mpr h), neg_neg]
    · rw [min_eq_right h, max_eq_right (by simpa using EReal.neg_le_neg_iff.mpr h), neg_zero]
  rw [e, e', neg_neg, max_comm (-x) x, hm]
  have ha : (0 : EReal) ≤ max (-x) 0 := le_max_right _ _
  have hb := log1p_exp_nonneg (-max x (-x))
  rw [EReal.neg_add (.inl (ne_of_gt (lt_of_lt_of_le (by decide) ha))) (.inr (ne_of_gt (lt_of_lt_of_le (by decide) hb)))]

/-- The scale of the queries. -/
abbrev sc : EReal := Ideal.ofBits .f32 0x3DB504F3#32
/-- One half. -/
abbrev half : EReal := Ideal.ofBits .f32 0x3F000000#32

/-- What one chunk brings to one head: queries, keys, log gates and values. -/
structure Chunk where
  q : Fin 64 → Fin 128 → EReal
  k : Fin 64 → Fin 128 → EReal
  a : Fin 64 → Fin 128 → EReal
  v : Fin 64 → Fin 256 → EReal

namespace Chunk

variable (x : Chunk)

/-- The running log decay. -/
def dec (i : Fin 64) (d : Fin 128) : EReal := cum (fun j => x.a j d) i

/-- The part of a position's output that comes from its own chunk. -/
def intra (i : Fin 64) (e : Fin 256) : EReal :=
  ∑ j : Fin 64, (if j.val ≤ i.val then
    ∑ d : Fin 128, x.q i d * sc * Ideal.exp (x.dec i d - half * x.dec 63 d) * (x.k j d * Ideal.exp (half * x.dec 63 d - x.dec j d))
    else 0) * x.v j e

/-- The part of a position's output that comes from the state before the chunk. -/
def inter (S : Fin 128 → Fin 256 → EReal) (i : Fin 64) (e : Fin 256) : EReal :=
  ∑ d : Fin 128, x.q i d * sc * Ideal.exp (x.dec i d) * S d e

/-- A position's output. -/
def out (S : Fin 128 → Fin 256 → EReal) (i : Fin 64) (e : Fin 256) : EReal := x.intra i e + x.inter S i e

/-- The state after the chunk. -/
def next (S : Fin 128 → Fin 256 → EReal) (d : Fin 128) (e : Fin 256) : EReal :=
  Ideal.exp (x.dec 63 d) * S d e + ∑ j : Fin 64, x.k j d * Ideal.exp (x.dec 63 d - x.dec j d) * x.v j e

end Chunk

/-- The state before chunk `n` of a sequence of chunks. -/
def state (x : Fin 64 → Chunk) : ℕ → Fin 128 → Fin 256 → EReal
  | 0 => fun _ _ => 0
  | n + 1 => if h : n < 64 then (x ⟨n, h⟩).next (state x n) else state x n

theorem state_succ (x : Fin 64 → Chunk) (n : Fin 64) : state x (n.val + 1) = (x n).next (state x n.val) :=
  dif_pos n.isLt

/-- The normalised and gated output entry: the root mean square norm over the head's 256 columns, the norm's weight, and
    the SiLU of the gate column. -/
def gated (o : Fin 256 → EReal) (g r : Fin 256 → EReal) (e : Fin 256) : EReal :=
  o e * Ideal.rsqrt (Ideal.div (∑ e' : Fin 256, o e' * o e') (Ideal.ofBits .f32 0x43800000#32) + Ideal.ofBits .f32 0x358637BD#32)
    * g e * (r e * Ideal.logistic (r e))

/-! ## The whole call, over its arrays

Four sequences of 64 chunks of 64 positions each, four heads; the projection's row holds the queries from column 2048 on,
the keys from 2560, the values from 3072 and the output gates from 4096.
-/

/-- The arrays: the layer's projection, the columns before the forget gate, the gate's weight and bias, the norm's weight. -/
structure Arrays where
  x : Fin 16384 → Fin 5120 → EReal
  p : Fin 16384 → Fin 128 → EReal
  w : Fin 16 → Fin 512 → EReal
  b : Fin 512 → EReal
  g : Fin 256 → EReal

namespace Arrays

variable (A : Arrays)

/-- The row of position `i` of chunk `n` of sequence `s`. -/
abbrev row (s : Fin 4) (n i : Fin 64) : Fin 16384 := ⟨s.val * 4096 + n.val * 64 + i.val, by omega⟩

/-- The forget gate before its logarithm. -/
def gate (r : Fin 16384) (c : Fin 512) : EReal := (∑ k : Fin 16, A.p r ⟨k.val, by omega⟩ * A.w k c) + A.b c

/-- What head `h` sees of chunk `n` of sequence `s`. -/
def chunk (s h : Fin 4) (n : Fin 64) : Chunk where
  q := fun i d => A.x (row s n i) ⟨2048 + (h.val * 128 + d.val), by omega⟩
  k := fun i d => A.x (row s n i) ⟨2560 + (h.val * 128 + d.val), by omega⟩
  a := fun i d => logGate (A.gate (row s n i) ⟨h.val * 128 + d.val, by omega⟩)
  v := fun i e => A.x (row s n i) ⟨3072 + (h.val * 256 + e.val), by omega⟩

/-- A result entry. -/
def result (s h : Fin 4) (n i : Fin 64) (e : Fin 256) : EReal :=
  gated ((A.chunk s h n).out (state (A.chunk s h) n.val) i) A.g
    (fun e => A.x (row s n i) ⟨4096 + (h.val * 256 + e.val), by omega⟩) e

end Arrays

/-- The call's arrays, as functions of their coordinates. -/
def arrays (x : FVec Ideal ⟨2, ![16384, 5120]⟩ .f32) (p : FVec Ideal ⟨2, ![16384, 128]⟩ .f32) (w : FVec Ideal ⟨2, ![16, 512]⟩ .f32)
    (b : FVec Ideal ⟨1, ![512]⟩ .f32) (g : FVec Ideal ⟨1, ![256]⟩ .f32) : Arrays where
  x := fun r c => x (ix2 r c)
  p := fun r c => p (ix2 r c)
  w := fun k c => w (ix2 k c)
  b := fun c => b (ix1 c)
  g := fun c => g (ix1 c)

/-- The call's result as an array. -/
def resultArray (A : Arrays) (y : (⟨2, ![16384, 1024]⟩ : Shape).Idx) : EReal :=
  A.result ⟨(y 0).val / 4096, by have : (y 0).val < 16384 := (y 0).isLt; omega⟩
    ⟨(y 1).val / 256, by have : (y 1).val < 1024 := (y 1).isLt; omega⟩
    ⟨(y 0).val % 4096 / 64, by omega⟩ ⟨(y 0).val % 64, Nat.mod_lt _ (by decide)⟩ ⟨(y 1).val % 256, Nat.mod_lt _ (by decide)⟩

end Cert.Proof.Gla

end
-- ==== Proof.Gla.Heads.lean ====
/- The four heads of the kernel's block, each read against the mathematics of one head on one chunk: the running sums of
   the log gates, the normalised output and the state the block hands on. -/
module

public import proofs.«01_k».proof.Proof.Gen.KernelIdeal.Value
public import proofs.«01_k».proof.Proof.Gla.Math

@[expose] public section

set_option maxRecDepth 16384

noncomputable section

open Idealize.ShloMosaic Idealize.ShloMosaic.TcCoe Idealize.SL.Sem

namespace Cert.Proof.Gla

open Cert.KernelIdeal Cert.KernelIdeal.Gen

/-- The row numbers of a block. -/
abbrev rows : IVec S64x128 32 := iota Kind.tc S64x128 32 [0] iota_S64x128_d0_w32

/-- Column `d` of head `h`, among the key columns. -/
abbrev kcol (h : Fin 4) (d : Fin 128) : Fin 512 := ⟨h.val * 128 + d.val, by omega⟩

/-- What head `h` sees of a block: its queries, keys and values as loaded, and its columns of the log gates. -/
abbrev seen (h : Fin 4) (q k : Vec Ideal S64x128 .f32) (a : FVec Ideal S64x512 .f32) (v : Vec Ideal S64x256 .f32) : Chunk where
  q := fun i d => q (ix2 i d)
  k := fun i d => k (ix2 i d)
  a := fun i d => a (ix2 i (kcol h d))
  v := fun i e => v (ix2 i e)

/-- A head's state as loaded, as a function of its two coordinates. -/
abbrev held (S : Vec Ideal S1x128x256 .f32) (d : Fin 128) (e : Fin 256) : EReal := S (ix3 0 d e)

variable (a : FVec Ideal S64x512 .f32) (q k : Vec Ideal S64x128 .f32) (v r : Vec Ideal S64x256 .f32)
  (S : Vec Ideal S1x128x256 .f32) (g : Vec Ideal S1x256 .f32)

/-! ## The running sums -/

/-- One doubling step on a block's columns: every row from row `w` on takes in the row `w` above it. -/
def shifted (w : BitVec 32) (x : FVec Ideal S64x128 .f32) : FVec Ideal S64x128 .f32 :=
  addf x (select (cmpi .sge rows (broadcast S64x128 w)) (dynamicRotate 0 w none x rotates_S64x128_d0)
    (broadcast S64x128 (Scalar.ofBits .f32 0x00000000#32)))

/-- Six doubling steps. -/
def scanned (x : FVec Ideal S64x128 .f32) : FVec Ideal S64x128 .f32 :=
  shifted 32#32 (shifted 16#32 (shifted 8#32 (shifted 4#32 (shifted 2#32 (shifted 1#32 x)))))

/-- The scan leaves the running sums of the columns. -/
theorem scanned_apply (x : FVec Ideal S64x128 .f32) (i : Fin 64) (d : Fin 128) :
    scanned x (ix2 i d) = cum (fun j => x (ix2 j d)) i := by
  have h1 : ∀ x i, shifted 1#32 x (ix2 i d) = step 1 (fun j => x (ix2 j d)) i := by intro x i; pointwise [shifted, step]
  have h2 : ∀ x i, shifted 2#32 x (ix2 i d) = step 2 (fun j => x (ix2 j d)) i := by intro x i; pointwise [shifted, step]
  have h4 : ∀ x i, shifted 4#32 x (ix2 i d) = step 4 (fun j => x (ix2 j d)) i := by intro x i; pointwise [shifted, step]
  have h8 : ∀ x i, shifted 8#32 x (ix2 i d) = step 8 (fun j => x (ix2 j d)) i := by intro x i; pointwise [shifted, step]
  have h16 : ∀ x i, shifted 16#32 x (ix2 i d) = step 16 (fun j => x (ix2 j d)) i := by intro x i; pointwise [shifted, step]
  have h32 : ∀ x i, shifted 32#32 x (ix2 i d) = step 32 (fun j => x (ix2 j d)) i := by intro x i; pointwise [shifted, step]
  simp only [scanned, h1, h2, h4, h8, h16, h32]
  exact congrFun (steps _) i

theorem cols0 (i : Fin 64) (d : Fin 128) :
    extractStridedSlice S64x128 ![0, 0] a slices_S64x512_o0_0_S64x128 (ix2 i d) = a (ix2 i (kcol 0 d)) := by
  pointwise; congr 2; ext; simp
theorem cols1 (i : Fin 64) (d : Fin 128) :
    extractStridedSlice S64x128 ![0, 128] a slices_S64x512_o0_128_S64x128 (ix2 i d) = a (ix2 i (kcol 1 d)) := by pointwise; rfl
theorem cols2 (i : Fin 64) (d : Fin 128) :
    extractStridedSlice S64x128 ![0, 256] a slices_S64x512_o0_256_S64x128 (ix2 i d) = a (ix2 i (kcol 2 d)) := by pointwise; rfl
theorem cols3 (i : Fin 64) (d : Fin 128) :
    extractStridedSlice S64x128 ![0, 384] a slices_S64x512_o0_384_S64x128 (ix2 i d) = a (ix2 i (kcol 3 d)) := by pointwise; rfl

theorem cum0 (A : Vec Ideal S64x128 .f32) (W : Vec Ideal S128x512 .bf16) (B : Vec Ideal S1x512 .f32) (i : Fin 64) (d : Fin 128) :
    k0_pay6 (F := Ideal) rows (k0_pay5 A W B) (ix2 i d) = (seen 0 q k (k0_pay3 A W B) v).dec i d := by
  have e : k0_pay6 (F := Ideal) rows (k0_pay5 A W B) = scanned (extractStridedSlice S64x128 ![0, 0] (k0_pay3 A W B) slices_S64x512_o0_0_S64x128) := by
    delta k0_pay6 k0_pay5 scanned shifted
    rfl
  rw [e, scanned_apply]
  exact congrArg (cum · i) (funext fun j => cols0 _ j d)

theorem cum1 (i : Fin 64) (d : Fin 128) :
    k0_pay20 (F := Ideal) rows (k0_pay18 a) (k0_pay19 a) (ix2 i d) = (seen 1 q k a v).dec i d := by
  have e : k0_pay20 (F := Ideal) rows (k0_pay18 a) (k0_pay19 a) = scanned (extractStridedSlice S64x128 ![0, 128] a slices_S64x512_o0_128_S64x128) := by
    delta k0_pay20 k0_pay19 k0_pay18 scanned shifted
    rfl
  rw [e, scanned_apply]
  exact congrArg (cum · i) (funext fun j => cols1 _ j d)

theorem cum2 (i : Fin 64) (d : Fin 128) :
    k0_pay30 (F := Ideal) rows (k0_pay29 a) 2#32 (ix2 i d) = (seen 2 q k a v).dec i d := by
  have e : k0_pay30 (F := Ideal) rows (k0_pay29 a) 2#32 = scanned (extractStridedSlice S64x128 ![0, 256] a slices_S64x512_o0_256_S64x128) := by
    delta k0_pay30 k0_pay29 scanned shifted
    rfl
  rw [e, scanned_apply]
  exact congrArg (cum · i) (funext fun j => cols2 _ j d)

theorem cum3 (i : Fin 64) (d : Fin 128) :
    k0_pay41 (F := Ideal) rows (k0_pay40 a) (ix2 i d) = (seen 3 q k a v).dec i d := by
  have e : k0_pay41 (F := Ideal) rows (k0_pay40 a) = scanned (extractStridedSlice S64x128 ![0, 384] a slices_S64x512_o0_384_S64x128) := by
    delta k0_pay41 k0_pay40 scanned shifted
    rfl
  rw [e, scanned_apply]
  exact congrArg (cum · i) (funext fun j => cols3 _ j d)

/-! ## The states -/

theorem next0 (A : Vec Ideal S64x128 .f32) (W : Vec Ideal S128x512 .bf16) (B : Vec Ideal S1x512 .f32) (d : Fin 128) (e : Fin 256) :
    k0_pay14 (F := Ideal) (k0_pay6 rows (k0_pay5 A W B)) k (k0_pay9 v) S (ix3 0 d e)
      = (seen 0 q k (k0_pay3 A W B) v).next (held S) d e := by
  pointwise [k0_pay14, k0_pay9, k0_pay12]
  simp only [cum0 q k v, Chunk.next]

theorem next1 (d : Fin 128) (e : Fin 256) :
    k0_pay27 (F := Ideal) (k0_pay21 v) (k0_pay22 S) (k0_pay24 rows (k0_pay18 a) (k0_pay19 a)) (k0_pay25 rows (k0_pay18 a) (k0_pay19 a)) (k0_pay26 k) (ix3 0 d e)
      = (seen 1 q k a v).next (held S) d e := by
  pointwise [k0_pay27, k0_pay21, k0_pay22, k0_pay24, k0_pay25, k0_pay26]
  simp only [cum1 a q k v, Chunk.next]

theorem next2 (d : Fin 128) (e : Fin 256) :
    k0_pay36 (F := Ideal) (k0_pay30 rows (k0_pay29 a) 2#32) k v S (ix3 0 d e) = (seen 2 q k a v).next (held S) d e := by
  pointwise [k0_pay36, k0_pay33, k0_pay34]
  simp only [cum2 a q k v, Chunk.next]

theorem next3 (d : Fin 128) (e : Fin 256) :
    k0_pay47 (F := Ideal) (k0_pay41 rows (k0_pay40 a)) k (k0_pay43 v) S (ix3 0 d e) = (seen 3 q k a v).next (held S) d e := by
  pointwise [k0_pay47, k0_pay43, k0_pay46]
  simp only [cum3 a q k v, Chunk.next]

/-! ## The outputs -/

/-- The mask of the earlier positions, as an `if`. -/
theorem masked (i j : Fin 64) (x y : EReal) :
    Scalar.select (IntOp.cmpi .sle (BitVec.ofNat 32 j.val) (BitVec.ofNat 32 i.val)) x y = if j.val ≤ i.val then x else y := by
  rw [WordCmp.cmpi_sle_ofNat (by omega) (by omega), WordCmp.select_decide]

theorem ite_mul_zero (p : Prop) [Decidable p] (x y : EReal) : (if p then x else 0) * y = if p then x * y else 0 := by
  split
  · rfl
  · exact zero_mul _

/-- The head's output entry before the norm. -/
theorem out0 (A : Vec Ideal S64x128 .f32) (W : Vec Ideal S128x512 .bf16) (B : Vec Ideal S1x512 .f32) (i : Fin 64) (e : Fin 256) :
    k0_pay13 (F := Ideal) k0_pay4 (k0_pay6 rows (k0_pay5 A W B)) (k0_pay8 q) k (k0_pay9 v) (k0_pay10 rows (k0_pay5 A W B) q)
      (k0_pay11 rows (k0_pay5 A W B)) S (ix2 i e) = (seen 0 q k (k0_pay3 A W B) v).out (held S) i e := by
  pointwise [k0_pay13, k0_pay4, k0_pay8, k0_pay9, k0_pay10, k0_pay11, k0_pay7, k0_pay12]
  simp only [cum0 q k v, Chunk.out, Chunk.intra, Chunk.inter, masked, ite_mul_zero]

theorem out1 (i : Fin 64) (e : Fin 256) :
    k0_pay23 (F := Ideal) k0_pay4 rows (k0_pay18 a) (k0_pay19 a) q k v S (ix2 i e) = (seen 1 q k a v).out (held S) i e := by
  pointwise [k0_pay23, k0_pay4, k0_pay21, k0_pay22]
  simp only [cum1 a q k v, Chunk.out, Chunk.intra, Chunk.inter, masked, ite_mul_zero]

theorem out2 (i : Fin 64) (e : Fin 256) :
    k0_pay35 (F := Ideal) k0_pay4 (k0_pay30 rows (k0_pay29 a) 2#32) (k0_pay31 rows (k0_pay29 a) 2#32) (k0_pay32 q) k v S (ix2 i e)
      = (seen 2 q k a v).out (held S) i e := by
  pointwise [k0_pay35, k0_pay4, k0_pay31, k0_pay32, k0_pay33, k0_pay34]
  simp only [cum2 a q k v, Chunk.out, Chunk.intra, Chunk.inter, masked, ite_mul_zero]

/-- The normalised and gated entry of each head. -/
theorem gated0 (A : Vec Ideal S64x128 .f32) (W : Vec Ideal S128x512 .bf16) (B : Vec Ideal S1x512 .f32) (i : Fin 64) (e : Fin 256) :
    k0_pay17 (F := Ideal) (k0_pay13 k0_pay4 (k0_pay6 rows (k0_pay5 A W B)) (k0_pay8 q) k (k0_pay9 v) (k0_pay10 rows (k0_pay5 A W B) q)
        (k0_pay11 rows (k0_pay5 A W B)) S) (k0_pay15 g)
      (k0_pay16 k0_pay4 (k0_pay6 rows (k0_pay5 A W B)) (k0_pay8 q) k (k0_pay9 v) (k0_pay10 rows (k0_pay5 A W B) q)
        (k0_pay11 rows (k0_pay5 A W B)) S) r (ix2 i e)
      = gated ((seen 0 q k (k0_pay3 A W B) v).out (held S) i) (fun e => g (ix2 0 e)) (fun e => r (ix2 i e)) e := by
  pointwise [k0_pay17, k0_pay15, k0_pay16]
  simp only [out0 q k v S, gated]

theorem gated1 (i : Fin 64) (e : Fin 256) :
    k0_pay28 (F := Ideal) (k0_pay23 k0_pay4 rows (k0_pay18 a) (k0_pay19 a) q k v S) g r (ix2 i e)
      = gated ((seen 1 q k a v).out (held S) i) (fun e => g (ix2 0 e)) (fun e => r (ix2 i e)) e := by
  pointwise [k0_pay28]
  simp only [out1 a q k v S, gated]

theorem gated2 (i : Fin 64) (e : Fin 256) :
    k0_pay39 (F := Ideal) (k0_pay35 k0_pay4 (k0_pay30 rows (k0_pay29 a) 2#32) (k0_pay31 rows (k0_pay29 a) 2#32) (k0_pay32 q) k v S)
      (k0_pay37 g)
      (k0_pay38 k0_pay4 (k0_pay30 rows (k0_pay29 a) 2#32) (k0_pay31 rows (k0_pay29 a) 2#32) (k0_pay32 q) k v S) r (ix2 i e)
      = gated ((seen 2 q k a v).out (held S) i) (fun e => g (ix2 0 e)) (fun e => r (ix2 i e)) e := by
  pointwise [k0_pay39, k0_pay37, k0_pay38]
  simp only [out2 a q k v S, gated]

theorem out3 (i : Fin 64) (e : Fin 256) :
    @HAdd.hAdd EReal EReal EReal _ (k0_pay44 (F := Ideal) k0_pay4 rows (k0_pay40 a) q k v (ix2 i e))
      (∑ d : Fin 128, k0_pay45 (F := Ideal) rows (k0_pay40 a) q (ix2 i d) * held S d e) = (seen 3 q k a v).out (held S) i e := by
  pointwise [k0_pay44, k0_pay45, k0_pay4, k0_pay42, k0_pay43]
  simp only [cum3 a q k v, Chunk.out, Chunk.intra, Chunk.inter, masked, ite_mul_zero]

theorem gated3 (i : Fin 64) (e : Fin 256) :
    k0_pay1 (F := Ideal) (k0_pay48 (k0_pay44 k0_pay4 rows (k0_pay40 a) q k v) (k0_pay45 rows (k0_pay40 a) q) S g) (k0_pay49 r) (ix2 i e)
      = gated ((seen 3 q k a v).out (held S) i) (fun e => g (ix2 0 e)) (fun e => r (ix2 i e)) e := by
  pointwise [k0_pay1, k0_pay48, k0_pay49, k0_pay46]
  simp only [out3 a q k v S, gated]

end Cert.Proof.Gla

end
-- ==== Proof.Gla.Kernel.lean ====
/- The gated linear attention of the kernel, over its arrays: the scratch after every point holds the four heads' states,
   and every block of the result the four heads' outputs. -/
module

public import proofs.«01_k».proof.Proof.Gla.Heads
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.Gla

open Cert.KernelIdeal Cert.KernelIdeal.Gen

variable (m : (ℓ : Loc nD τ sig) → Buf (Elt Ideal) ℓ)

/-- The arrays the kernel is launched on. -/
abbrev at0 (c : Dev nD) : Arrays :=
  arrays (m ((c : Thread nD τ).loc main_arg0)) (m ((c : Thread nD τ).loc main_arg1)) (m ((c : Thread nD τ).loc main_arg2))
    (m ((c : Thread nD τ).loc main_arg3)) (m ((c : Thread nD τ).loc main_arg4))

/-- Every window's block index at a point. -/
theorem idx : ∀ t : Fin cfg0.N, win0_0.index t = ![t.val, 4] ∧ win0_1.index t = ![t.val, 5] ∧ win0_2.index t = ![t.val, 3] ∧
    win0_3.index t = ![t.val, 4] ∧ win0_4.index t = ![t.val, 0] ∧ win0_5.index t = ![0, 0] ∧ win0_6.index t = ![0, 0] ∧
    win0_7.index t = ![0, 0] ∧ win0_8.index t = ![t.val, 0] :=
  (by decide +kernel : ∀ t : Fin grid0.N, _)

theorem points (t : Fin cfg0.N) : t.val < 256 := lt_of_lt_of_eq t.isLt (by decide +kernel)

/-- The sequence a point works on. -/
def seqOf (t : Fin cfg0.N) : Fin 4 := ⟨t.val / 64, by have := points t; omega⟩
/-- The chunk a point works on. -/
def chunkOf (t : Fin cfg0.N) : Fin 64 := ⟨t.val % 64, by omega⟩

theorem row_eq (t : Fin cfg0.N) (i : Fin 64) : (Arrays.row (seqOf t) (chunkOf t) i).val = t.val * 64 + i.val := by
  show t.val / 64 * 4096 + t.val % 64 * 64 + i.val = _
  omega

/-- A row number with its value known. -/
theorem exists_row (t : Fin cfg0.N) (i : Fin 64) : ∃ h, Arrays.row (seqOf t) (chunkOf t) i = ⟨t.val * 64 + i.val, h⟩ :=
  ⟨by have := points t; omega, Fin.ext (row_eq t i)⟩

theorem q_entry (c : Dev nD) (t : Fin cfg0.N) (i : Fin 64) (d : Fin 512) :
    (iblk m c 0 t : FVec Ideal S64x512 .f32) (ix2 i d) = (at0 m c).x (Arrays.row (seqOf t) (chunkOf t) i) ⟨2048 + d.val, by omega⟩ := by
  obtain ⟨h, e⟩ := exists_row t i
  rw [e]; simp only [arrays]
  blk_point [iblk, V, idx t]

theorem k_entry (c : Dev nD) (t : Fin cfg0.N) (i : Fin 64) (d : Fin 512) :
    (iblk m c 1 t : FVec Ideal S64x512 .f32) (ix2 i d) = (at0 m c).x (Arrays.row (seqOf t) (chunkOf t) i) ⟨2560 + d.val, by omega⟩ := by
  obtain ⟨h, e⟩ := exists_row t i
  rw [e]; simp only [arrays]
  blk_point [iblk, V, idx t]

theorem v_entry (c : Dev nD) (t : Fin cfg0.N) (i : Fin 64) (d : Fin 1024) :
    (iblk m c 2 t : FVec Ideal S64x1024 .f32) (ix2 i d) = (at0 m c).x (Arrays.row (seqOf t) (chunkOf t) i) ⟨3072 + d.val, by omega⟩ := by
  obtain ⟨h, e⟩ := exists_row t i
  rw [e]; simp only [arrays]
  blk_point [iblk, V, idx t]

theorem r_entry (c : Dev nD) (t : Fin cfg0.N) (i : Fin 64) (d : Fin 1024) :
    (iblk m c 3 t : FVec Ideal S64x1024 .f32) (ix2 i d) = (at0 m c).x (Arrays.row (seqOf t) (chunkOf t) i) ⟨4096 + d.val, by omega⟩ := by
  obtain ⟨h, e⟩ := exists_row t i
  rw [e]; simp only [arrays]
  blk_point [iblk, V, idx t]

theorem p_entry (c : Dev nD) (t : Fin cfg0.N) (i : Fin 64) (d : Fin 128) :
    (iblk m c 4 t : FVec Ideal S64x128 .f32) (ix2 i d) = (at0 m c).p (Arrays.row (seqOf t) (chunkOf t) i) d := by
  obtain ⟨h, e⟩ := exists_row t i
  rw [e]; simp only [arrays]
  blk_point [iblk, V, idx t]

/-- The padded gate weight as the call finds it. -/
theorem weight_read (c : Dev nD) : (V m c main_v1 : FVec Ideal S128x512 .bf16)
    = truncf .bf16 (pad S128x512 ![0, 0] ![112, 0] ![0, 0] (m ((c : Thread nD τ).loc main_arg2)) (sitofp .f32 (constantI S_ 32 0#32)) pads_S16x512_S128x512_01120_000 h_S_ : FVec Ideal S128x512 .f32) bitsLt_bf16_f32 := by
  delta V
  simp only [hostOps0, hostOps0_1, hostOps0_2, List.flatten_cons, List.flatten_nil, List.append_nil, List.cons_append, List.nil_append]
  after_results
  rfl

/-- The gate's bias as the call finds it. -/
theorem bias_read (c : Dev nD) : (V m c main_v2 : FVec Ideal S1x512 .f32)
    = shapeCast S1x512 (m ((c : Thread nD τ).loc main_arg3) : FVec Ideal S512 .f32) shapeCasts_S512_S1x512 := by
  delta V
  simp only [hostOps0, hostOps0_1, hostOps0_2, List.flatten_cons, List.flatten_nil, List.append_nil, List.cons_append, List.nil_append]
  after_results
  rfl

/-- The norm's weight as the call finds it. -/
theorem norm_read (c : Dev nD) : (V m c main_v3 : FVec Ideal S1x256 .f32)
    = shapeCast S1x256 (m ((c : Thread nD τ).loc main_arg4) : FVec Ideal S256 .f32) shapeCasts_S256_S1x256 := by
  delta V
  simp only [hostOps0, hostOps0_1, hostOps0_2, List.flatten_cons, List.flatten_nil, List.append_nil, List.cons_append, List.nil_append]
  after_results
  rfl

/-- The padded gate weight: the first 16 rows are the weight's, the others are zero. -/
theorem w_entry (c : Dev nD) (t : Fin cfg0.N) (k : Fin 128) (d : Fin 512) :
    (iblk m c 5 t : FVec Ideal S128x512 .bf16) (ix2 k d) = if h : k.val < 16 then (at0 m c).w ⟨k.val, h⟩ d else 0 := by
  simp only [arrays]
  have e : (win0_5.blk t).view.emb (ix2 k d) = ix2 k d := by blk_ext [idx t]
  show (V m c main_v1 : FVec Ideal S128x512 .bf16) ((win0_5.blk t).view.emb (ix2 k d)) = _
  rw [e, weight_read]
  pointwise
  by_cases h : k.val < 16
  · rw [dif_pos h, dif_pos (by intro a; fin_cases a <;> simp [h] <;> omega)]
  · rw [dif_neg h, dif_neg (fun hh => h (by simpa using (hh 0).2.2))]
    exact show ((((0#32 : BitVec 32).toInt : ℝ)) : EReal) = 0 by simp

theorem b_entry (c : Dev nD) (t : Fin cfg0.N) (d : Fin 512) :
    (iblk m c 6 t : FVec Ideal S1x512 .f32) (ix2 0 d) = (at0 m c).b d := by
  simp only [arrays]
  blk_simp [iblk, idx t]
  rw [bias_read]
  pointwise
  all_goals blk_ext [idx t]

theorem g_entry (c : Dev nD) (t : Fin cfg0.N) (d : Fin 256) :
    (iblk m c 7 t : FVec Ideal S1x256 .f32) (ix2 0 d) = (at0 m c).g d := by
  simp only [arrays]
  blk_simp [iblk, idx t]
  rw [norm_read]
  pointwise
  all_goals blk_ext [idx t]

/-- A sum over 128 numbers of which only the first 16 count. -/
theorem sum_padded (f : Fin 128 → EReal) (w : Fin 16 → EReal) :
    (∑ k : Fin 128, f k * (if h : k.val < 16 then w ⟨k.val, h⟩ else 0)) = ∑ k : Fin 16, f ⟨k.val, by omega⟩ * w k := by
  refine (Fin.sum_univ_add (a := 16) (b := 112) fun k => f k * (if h : k.val < 16 then w ⟨k.val, h⟩ else 0)).trans ?_
  rw [Finset.sum_eq_zero (s := (Finset.univ : Finset (Fin 112))) (fun k _ => by
    rw [dif_neg (by simp), mul_zero]), add_zero]
  exact Finset.sum_congr rfl fun k _ => by rw [dif_pos (by simp)]; rfl

/-- The block's log gates. -/
theorem a_entry (c : Dev nD) (t : Fin cfg0.N) (i : Fin 64) (d : Fin 512) :
    k0_pay3 (F := Ideal) (iblk m c 4 t) (iblk m c 5 t) (iblk m c 6 t) (ix2 i d)
      = logGate ((at0 m c).gate (Arrays.row (seqOf t) (chunkOf t) i) d) := by
  have hp := p_entry m c t i
  have hw := w_entry m c t
  have hb := b_entry m c t d
  have hs := sum_padded (fun k => (at0 m c).p (Arrays.row (seqOf t) (chunkOf t) i) k) (fun k => (at0 m c).w k d)
  pointwise [k0_pay3]
  simp only [hp, hw, hb, hs, logGate, logSig, Arrays.gate]
  rfl

variable {q k : Vec Ideal S64x128 .f32} {a : FVec Ideal S64x512 .f32} {v r : Vec Ideal S64x256 .f32}
  {S : Vec Ideal S1x128x256 .f32} {g : Vec Ideal S1x256 .f32}

/-- What a head sees of a point's block is its chunk. -/
theorem seen_eq (A : Arrays) (s h : Fin 4) (n : Fin 64)
    (hq : ∀ i d, q (ix2 i d) = A.x (Arrays.row s n i) ⟨2048 + (h.val * 128 + d.val), by omega⟩)
    (hk : ∀ i d, k (ix2 i d) = A.x (Arrays.row s n i) ⟨2560 + (h.val * 128 + d.val), by omega⟩)
    (ha : ∀ i d, a (ix2 i d) = logGate (A.gate (Arrays.row s n i) d))
    (hv : ∀ i e, v (ix2 i e) = A.x (Arrays.row s n i) ⟨3072 + (h.val * 256 + e.val), by omega⟩) :
    seen h q k a v = A.chunk s h n := by
  simp only [seen, Arrays.chunk, hq, hk, ha, hv]

/-- The state after the chunk. -/
theorem next_eq {A : Arrays} {s h : Fin 4} {n : Fin 64} (hs : seen h q k a v = A.chunk s h n)
    (hS : ∀ d e, S (ix3 0 d e) = state (A.chunk s h) n.val d e) (d : Fin 128) (e : Fin 256) :
    (seen h q k a v).next (held S) d e = state (A.chunk s h) (n.val + 1) d e := by
  rw [hs, state_succ, show held S = state (A.chunk s h) n.val from funext fun d => funext fun e => hS d e]

/-- The chunk's output. -/
theorem gated_eq {A : Arrays} {s h : Fin 4} {n : Fin 64} (hs : seen h q k a v = A.chunk s h n)
    (hS : ∀ d e, S (ix3 0 d e) = state (A.chunk s h) n.val d e) (hg : ∀ e, g (ix2 0 e) = A.g e)
    (hr : ∀ i e, r (ix2 i e) = A.x (Arrays.row s n i) ⟨4096 + (h.val * 256 + e.val), by omega⟩) (i : Fin 64) (e : Fin 256) :
    gated ((seen h q k a v).out (held S) i) (fun e => g (ix2 0 e)) (fun e => r (ix2 i e)) e = A.result s h n i e := by
  rw [hs, show held S = state (A.chunk s h) n.val from funext fun d => funext fun e => hS d e]
  simp only [hg, hr]
  rfl

/-- The scratch holds the states before chunk `n` of sequence `s`. -/
def Holds (A : Arrays) (s : Fin 4) (n : ℕ) (S : Vec Ideal S4x128x256 .f32) : Prop :=
  ∀ (h : Fin 4) (d : Fin 128) (e : Fin 256), S (ix3 h d e) = state (A.chunk s h) n d e

/-- The zero fill holds the states before the first chunk. -/
theorem holds_zero (A : Arrays) (s : Fin 4) : Holds A s 0 (k0_pay2 (F := Ideal)) := by
  intro h d e
  pointwise [k0_pay2, state]

/-- The states after `n` chunks, as an array. -/
def stateAt (A : Arrays) (s : Fin 4) (n : ℕ) (y : S4x128x256.Idx) : EReal := state (A.chunk s (y 0)) n (y 1) (y 2)

/-- The chunk's rows of the result, as an array. -/
def resultAt (A : Arrays) (s : Fin 4) (n : Fin 64) (y : S64x1024.Idx) : EReal :=
  A.result s ⟨(y 1).val / 256, by have : (y 1).val < 1024 := (y 1).isLt; omega⟩ n (y 0) ⟨(y 1).val % 256, Nat.mod_lt _ (by decide)⟩

theorem placed2 {r w o : ℕ} {i : Fin r} {d : Fin w} {R C : ℕ} {hi : i.val < R} {hd : o + d.val < C} (a : Fin 2) :
    ((ix2 (⟨i.val, hi⟩ : Fin R) (⟨o + d.val, hd⟩ : Fin C) : Shape.Idx ⟨2, ![R, C]⟩) a : ℕ) = ![0, o] a + (ix2 i d : Shape.Idx ⟨2, ![r, w]⟩) a := by
  fin_cases a
  · exact (Nat.zero_add _).symm
  · rfl

theorem placed3 (h : Fin 4) (d : Fin 128) (e : Fin 256) (a : Fin 3) :
    ((ix3 h d e : S4x128x256.Idx) a : ℕ) = ![h.val, 0, 0] a + (ix3 0 d e : S1x128x256.Idx) a := by
  fin_cases a
  · rfl
  · exact (Nat.zero_add _).symm
  · exact (Nat.zero_add _).symm

theorem emb3 (h : Fin 4) (d : Fin 128) (e : Fin 256) {inb} :
    (Rect.unit (s := S4x128x256) ![h.val, 0, 0] ![1, 128, 256] inb).emb (ix3 0 d e) = ix3 h d e :=
  funext fun a => Fin.ext ((Rect.idx_unit_val _ _ inb (ix3 0 d e) a).trans (placed3 h d e a).symm)

/-- Head `h`'s columns of the result's rows. -/
theorem resultAt_emb (A : Arrays) (s : Fin 4) (n : Fin 64) (h : Fin 4) (i : Fin 64) (e : Fin 256) {inb} :
    resultAt A s n ((Rect.unit (s := S64x1024) ![0, h.val * 256] ![64, 256] inb).emb (ix2 i e)) = A.result s h n i e := by
  have e0 : ((Rect.unit (s := S64x1024) ![0, h.val * 256] ![64, 256] inb).emb (ix2 i e)) = ix2 i ⟨h.val * 256 + e.val, by omega⟩ :=
    funext fun a => Fin.ext ((Rect.idx_unit_val _ _ inb (ix2 i e) a).trans (placed2 a).symm)
  rw [e0]
  have e1 : (⟨(h.val * 256 + e.val) / 256, by omega⟩ : Fin 4) = h := Fin.ext (by show (h.val * 256 + e.val) / 256 = h.val; omega)
  have e2 : (⟨(h.val * 256 + e.val) % 256, Nat.mod_lt _ (by decide)⟩ : Fin 256) = e := Fin.ext (by show (h.val * 256 + e.val) % 256 = e.val; omega)
  show A.result s ⟨(h.val * 256 + e.val) / 256, _⟩ n i ⟨(h.val * 256 + e.val) % 256, _⟩ = _
  rw [e1, e2]

/-- The states after a point, given those before it. -/
theorem state_point (c : Dev nD) (t : Fin cfg0.N)
    (ih : ¬ t.val % 64 = 0 → Holds (at0 m c) (seqOf t) (chunkOf t).val (outsAt0 m c (t.val - 1) (by omega)).2) :
    Holds (at0 m c) (seqOf t) ((chunkOf t).val + 1) (outsAt0 m c t.val t.isLt).2 := by
  suffices hG : ∀ y : S4x128x256.Idx, (outsAt0 m c t.val t.isLt).2 y = stateAt (at0 m c) (seqOf t) ((chunkOf t).val + 1) y from
    fun h d e => hG (ix3 h d e)
  intro y
  by_cases h0 : t.val % 64 = 0
  · have hS := holds_zero (at0 m c) (seqOf t)
    rw [← show (chunkOf t).val = 0 from h0] at hS
    rw [outsAt0_A m c t h0]
    frame_open
    simp (disch := decide) only [↓ View.readCov_skip, ↓ View.readCov_cons_toLoadRect, ↓ View.readCov_fill]
    frame_out
    generalize (k0_pay2 (F := Ideal)) = Sc at hS ⊢
    refine View.canon_append_of_piecesOf (Val := Elt Ideal) (s := S4x128x256) (e := .f32) (stateAt (at0 m c) (seqOf t) ((chunkOf t).val + 1))
      [_] [_, _, _, _] ⟨?_, ?_, ?_, ?_, trivial⟩ y ?cov
    case cov => exact View.cover_of_tiled_head _ _ _ (by rfl) y
    all_goals intro x
    all_goals obtain ⟨d, e, rfl⟩ : ∃ d e, x = ix3 0 d e := ⟨x 1, x 2, by blk_ext⟩
    · refine (next3 (k0_pay3 (iblk m c 4 t) (iblk m c 5 t) (iblk m c 6 t)) (fun x => (at0 m c).x (Arrays.row (seqOf t) (chunkOf t) (x 0)) ⟨2048 + (3 * 128 + (x 1).val), by have : (x 1).val < 128 := (x 1).isLt; omega⟩) _ _ _ d e).trans ?_
      exact (next_eq (seen_eq (at0 m c) (seqOf t) 3 (chunkOf t) (fun _ _ => rfl)
          (fun i d => (View.ld_unit_apply_of _ _ _ _ _ (ix2 i ⟨3 * 128 + d.val, by omega⟩) (by exact placed2)).trans (k_entry m c t i ⟨3 * 128 + d.val, by omega⟩)) (a_entry m c t)
          (fun i e => (View.ld_unit_apply_of _ _ _ _ _ (ix2 i ⟨3 * 256 + e.val, by omega⟩) (by exact placed2)).trans (v_entry m c t i ⟨3 * 256 + e.val, by omega⟩)))
          (fun d e => (View.ld_unit_apply_of _ _ _ _ _ (ix3 3 d e) (placed3 3 d e)).trans (hS 3 d e)) d e).trans
        (congrArg (stateAt (at0 m c) (seqOf t) ((chunkOf t).val + 1)) (emb3 3 d e (inb := inb_S4x128x256_S1x128x256_3_0_0))).symm
    · refine (next2 (k0_pay3 (iblk m c 4 t) (iblk m c 5 t) (iblk m c 6 t)) (fun x => (at0 m c).x (Arrays.row (seqOf t) (chunkOf t) (x 0)) ⟨2048 + (2 * 128 + (x 1).val), by have : (x 1).val < 128 := (x 1).isLt; omega⟩) _ _ _ d e).trans ?_
      exact (next_eq (seen_eq (at0 m c) (seqOf t) 2 (chunkOf t) (fun _ _ => rfl)
          (fun i d => (View.ld_unit_apply_of _ _ _ _ _ (ix2 i ⟨2 * 128 + d.val, by omega⟩) (by exact placed2)).trans (k_entry m c t i ⟨2 * 128 + d.val, by omega⟩)) (a_entry m c t)
          (fun i e => (View.ld_unit_apply_of _ _ _ _ _ (ix2 i ⟨2 * 256 + e.val, by omega⟩) (by exact placed2)).trans (v_entry m c t i ⟨2 * 256 + e.val, by omega⟩)))
          (fun d e => (View.ld_unit_apply_of _ _ _ _ _ (ix3 2 d e) (placed3 2 d e)).trans (hS 2 d e)) d e).trans
        (congrArg (stateAt (at0 m c) (seqOf t) ((chunkOf t).val + 1)) (emb3 2 d e (inb := inb_S4x128x256_S1x128x256_2_0_0))).symm
    · refine (next1 (k0_pay3 (iblk m c 4 t) (iblk m c 5 t) (iblk m c 6 t)) (fun x => (at0 m c).x (Arrays.row (seqOf t) (chunkOf t) (x 0)) ⟨2048 + (1 * 128 + (x 1).val), by have : (x 1).val < 128 := (x 1).isLt; omega⟩) _ _ _ d e).trans ?_
      exact (next_eq (seen_eq (at0 m c) (seqOf t) 1 (chunkOf t) (fun _ _ => rfl)
          (fun i d => (View.ld_unit_apply_of _ _ _ _ _ (ix2 i ⟨1 * 128 + d.val, by omega⟩) (by exact placed2)).trans (k_entry m c t i ⟨1 * 128 + d.val, by omega⟩)) (a_entry m c t)
          (fun i e => (View.ld_unit_apply_of _ _ _ _ _ (ix2 i ⟨1 * 256 + e.val, by omega⟩) (by exact placed2)).trans (v_entry m c t i ⟨1 * 256 + e.val, by omega⟩)))
          (fun d e => (View.ld_unit_apply_of _ _ _ _ _ (ix3 1 d e) (placed3 1 d e)).trans (hS 1 d e)) d e).trans
        (congrArg (stateAt (at0 m c) (seqOf t) ((chunkOf t).val + 1)) (emb3 1 d e (inb := inb_S4x128x256_S1x128x256_1_0_0))).symm
    · refine (next0 (fun x => (at0 m c).x (Arrays.row (seqOf t) (chunkOf t) (x 0)) ⟨2048 + (0 * 128 + (x 1).val), by have : (x 1).val < 128 := (x 1).isLt; omega⟩) _ _ _ (iblk m c 4 t) (iblk m c 5 t) (iblk m c 6 t) d e).trans ?_
      exact (next_eq (seen_eq (at0 m c) (seqOf t) 0 (chunkOf t) (fun _ _ => rfl)
          (fun i d => (View.ld_unit_apply_of _ _ _ _ _ (ix2 i ⟨0 * 128 + d.val, by omega⟩) (by exact placed2)).trans (k_entry m c t i ⟨0 * 128 + d.val, by omega⟩)) (a_entry m c t)
          (fun i e => (View.ld_unit_apply_of _ _ _ _ _ (ix2 i ⟨0 * 256 + e.val, by omega⟩) (by exact placed2)).trans (v_entry m c t i ⟨0 * 256 + e.val, by omega⟩)))
          (fun d e => (View.ld_unit_apply_of _ _ _ _ _ (ix3 0 d e) (placed3 0 d e)).trans (hS 0 d e)) d e).trans
        (congrArg (stateAt (at0 m c) (seqOf t) ((chunkOf t).val + 1)) (emb3 0 d e (inb := inb_S4x128x256_S1x128x256_0_0_0))).symm
  · have hS := ih h0
    rw [outsAt0_B m c t h0]
    frame_out
    rw [read_unread_whole]
    generalize (outsAt0 m c (t.val - 1) _).2 = Sc at hS ⊢
    refine View.canon_append_of_piecesOf (Val := Elt Ideal) (s := S4x128x256) (e := .f32) (stateAt (at0 m c) (seqOf t) ((chunkOf t).val + 1))
      [] [_, _, _, _] ⟨?_, ?_, ?_, ?_, trivial⟩ y ?cov
    case cov => exact View.cover_of_tiled_head _ _ _ (by rfl) y
    all_goals intro x
    all_goals obtain ⟨d, e, rfl⟩ : ∃ d e, x = ix3 0 d e := ⟨x 1, x 2, by blk_ext⟩
    · refine (next3 (k0_pay3 (iblk m c 4 t) (iblk m c 5 t) (iblk m c 6 t)) (fun x => (at0 m c).x (Arrays.row (seqOf t) (chunkOf t) (x 0)) ⟨2048 + (3 * 128 + (x 1).val), by have : (x 1).val < 128 := (x 1).isLt; omega⟩) _ _ _ d e).trans ?_
      exact (next_eq (seen_eq (at0 m c) (seqOf t) 3 (chunkOf t) (fun _ _ => rfl)
          (fun i d => (View.ld_unit_apply_of _ _ _ _ _ (ix2 i ⟨3 * 128 + d.val, by omega⟩) (by exact placed2)).trans (k_entry m c t i ⟨3 * 128 + d.val, by omega⟩)) (a_entry m c t)
          (fun i e => (View.ld_unit_apply_of _ _ _ _ _ (ix2 i ⟨3 * 256 + e.val, by omega⟩) (by exact placed2)).trans (v_entry m c t i ⟨3 * 256 + e.val, by omega⟩)))
          (fun d e => (View.ld_unit_apply_of _ _ _ _ _ (ix3 3 d e) (placed3 3 d e)).trans (hS 3 d e)) d e).trans
        (congrArg (stateAt (at0 m c) (seqOf t) ((chunkOf t).val + 1)) (emb3 3 d e (inb := inb_S4x128x256_S1x128x256_3_0_0))).symm
    · refine (next2 (k0_pay3 (iblk m c 4 t) (iblk m c 5 t) (iblk m c 6 t)) (fun x => (at0 m c).x (Arrays.row (seqOf t) (chunkOf t) (x 0)) ⟨2048 + (2 * 128 + (x 1).val), by have : (x 1).val < 128 := (x 1).isLt; omega⟩) _ _ _ d e).trans ?_
      exact (next_eq (seen_eq (at0 m c) (seqOf t) 2 (chunkOf t) (fun _ _ => rfl)
          (fun i d => (View.ld_unit_apply_of _ _ _ _ _ (ix2 i ⟨2 * 128 + d.val, by omega⟩) (by exact placed2)).trans (k_entry m c t i ⟨2 * 128 + d.val, by omega⟩)) (a_entry m c t)
          (fun i e => (View.ld_unit_apply_of _ _ _ _ _ (ix2 i ⟨2 * 256 + e.val, by omega⟩) (by exact placed2)).trans (v_entry m c t i ⟨2 * 256 + e.val, by omega⟩)))
          (fun d e => (View.ld_unit_apply_of _ _ _ _ _ (ix3 2 d e) (placed3 2 d e)).trans (hS 2 d e)) d e).trans
        (congrArg (stateAt (at0 m c) (seqOf t) ((chunkOf t).val + 1)) (emb3 2 d e (inb := inb_S4x128x256_S1x128x256_2_0_0))).symm
    · refine (next1 (k0_pay3 (iblk m c 4 t) (iblk m c 5 t) (iblk m c 6 t)) (fun x => (at0 m c).x (Arrays.row (seqOf t) (chunkOf t) (x 0)) ⟨2048 + (1 * 128 + (x 1).val), by have : (x 1).val < 128 := (x 1).isLt; omega⟩) _ _ _ d e).trans ?_
      exact (next_eq (seen_eq (at0 m c) (seqOf t) 1 (chunkOf t) (fun _ _ => rfl)
          (fun i d => (View.ld_unit_apply_of _ _ _ _ _ (ix2 i ⟨1 * 128 + d.val, by omega⟩) (by exact placed2)).trans (k_entry m c t i ⟨1 * 128 + d.val, by omega⟩)) (a_entry m c t)
          (fun i e => (View.ld_unit_apply_of _ _ _ _ _ (ix2 i ⟨1 * 256 + e.val, by omega⟩) (by exact placed2)).trans (v_entry m c t i ⟨1 * 256 + e.val, by omega⟩)))
          (fun d e => (View.ld_unit_apply_of _ _ _ _ _ (ix3 1 d e) (placed3 1 d e)).trans (hS 1 d e)) d e).trans
        (congrArg (stateAt (at0 m c) (seqOf t) ((chunkOf t).val + 1)) (emb3 1 d e (inb := inb_S4x128x256_S1x128x256_1_0_0))).symm
    · refine (next0 (fun x => (at0 m c).x (Arrays.row (seqOf t) (chunkOf t) (x 0)) ⟨2048 + (0 * 128 + (x 1).val), by have : (x 1).val < 128 := (x 1).isLt; omega⟩) _ _ _ (iblk m c 4 t) (iblk m c 5 t) (iblk m c 6 t) d e).trans ?_
      exact (next_eq (seen_eq (at0 m c) (seqOf t) 0 (chunkOf t) (fun _ _ => rfl)
          (fun i d => (View.ld_unit_apply_of _ _ _ _ _ (ix2 i ⟨0 * 128 + d.val, by omega⟩) (by exact placed2)).trans (k_entry m c t i ⟨0 * 128 + d.val, by omega⟩)) (a_entry m c t)
          (fun i e => (View.ld_unit_apply_of _ _ _ _ _ (ix2 i ⟨0 * 256 + e.val, by omega⟩) (by exact placed2)).trans (v_entry m c t i ⟨0 * 256 + e.val, by omega⟩)))
          (fun d e => (View.ld_unit_apply_of _ _ _ _ _ (ix3 0 d e) (placed3 0 d e)).trans (hS 0 d e)) d e).trans
        (congrArg (stateAt (at0 m c) (seqOf t) ((chunkOf t).val + 1)) (emb3 0 d e (inb := inb_S4x128x256_S1x128x256_0_0_0))).symm

/-- The point's rows of the result, given the states before it. -/
theorem result_point (c : Dev nD) (t : Fin cfg0.N)
    (ih : ¬ t.val % 64 = 0 → Holds (at0 m c) (seqOf t) (chunkOf t).val (outsAt0 m c (t.val - 1) (by omega)).2) (y : S64x1024.Idx) :
    (outsAt0 m c t.val t.isLt).1 y = resultAt (at0 m c) (seqOf t) (chunkOf t) y := by
  by_cases h0 : t.val % 64 = 0
  · have hS := holds_zero (at0 m c) (seqOf t)
    rw [← show (chunkOf t).val = 0 from h0] at hS
    rw [outsAt0_A m c t h0]
    frame_open
    simp (disch := decide) only [↓ View.readCov_skip, ↓ View.readCov_cons_toLoadRect, ↓ View.readCov_fill]
    frame_out
    generalize (k0_pay2 (F := Ideal)) = Sc at hS ⊢
    refine View.canon_append_of_piecesOf (Val := Elt Ideal) (s := S64x1024) (e := .bf16) (resultAt (at0 m c) (seqOf t) (chunkOf t))
      [] [_, _, _, _] ⟨?_, ?_, ?_, ?_, trivial⟩ y ?cov
    case cov => exact View.cover_of_tiled_head _ _ _ (by rfl) y
    all_goals intro x
    all_goals obtain ⟨i, e, rfl⟩ : ∃ i e, x = ix2 i e := ⟨x 0, x 1, (ix2_eta x).symm⟩
    · refine (gated3 (k0_pay3 (iblk m c 4 t) (iblk m c 5 t) (iblk m c 6 t)) _ _ _ _ _ _ i e).trans ?_
      exact (gated_eq (seen_eq (at0 m c) (seqOf t) 3 (chunkOf t) (fun i d => (View.ld_unit_apply_of _ _ _ _ _ (ix2 i ⟨3 * 128 + d.val, by omega⟩) (by exact placed2)).trans (q_entry m c t i ⟨3 * 128 + d.val, by omega⟩))
          (fun i d => (View.ld_unit_apply_of _ _ _ _ _ (ix2 i ⟨3 * 128 + d.val, by omega⟩) (by exact placed2)).trans (k_entry m c t i ⟨3 * 128 + d.val, by omega⟩)) (a_entry m c t)
          (fun i e => (View.ld_unit_apply_of _ _ _ _ _ (ix2 i ⟨3 * 256 + e.val, by omega⟩) (by exact placed2)).trans (v_entry m c t i ⟨3 * 256 + e.val, by omega⟩)))
          (fun d e => (View.ld_unit_apply_of _ _ _ _ _ (ix3 3 d e) (placed3 3 d e)).trans (hS 3 d e)) (g_entry m c t)
          (fun i e => (View.ld_unit_apply_of _ _ _ _ _ (ix2 i ⟨3 * 256 + e.val, by omega⟩) (by exact placed2)).trans (r_entry m c t i ⟨3 * 256 + e.val, by omega⟩)) i e).trans (resultAt_emb _ _ _ 3 i e (inb := inb_S64x1024_S64x256_0_768)).symm
    · refine (gated2 (k0_pay3 (iblk m c 4 t) (iblk m c 5 t) (iblk m c 6 t)) _ _ _ _ _ _ i e).trans ?_
      exact (gated_eq (seen_eq (at0 m c) (seqOf t) 2 (chunkOf t) (fun i d => (View.ld_unit_apply_of _ _ _ _ _ (ix2 i ⟨2 * 128 + d.val, by omega⟩) (by exact placed2)).trans (q_entry m c t i ⟨2 * 128 + d.val, by omega⟩))
          (fun i d => (View.ld_unit_apply_of _ _ _ _ _ (ix2 i ⟨2 * 128 + d.val, by omega⟩) (by exact placed2)).trans (k_entry m c t i ⟨2 * 128 + d.val, by omega⟩)) (a_entry m c t)
          (fun i e => (View.ld_unit_apply_of _ _ _ _ _ (ix2 i ⟨2 * 256 + e.val, by omega⟩) (by exact placed2)).trans (v_entry m c t i ⟨2 * 256 + e.val, by omega⟩)))
          (fun d e => (View.ld_unit_apply_of _ _ _ _ _ (ix3 2 d e) (placed3 2 d e)).trans (hS 2 d e)) (g_entry m c t)
          (fun i e => (View.ld_unit_apply_of _ _ _ _ _ (ix2 i ⟨2 * 256 + e.val, by omega⟩) (by exact placed2)).trans (r_entry m c t i ⟨2 * 256 + e.val, by omega⟩)) i e).trans (resultAt_emb _ _ _ 2 i e (inb := inb_S64x1024_S64x256_0_512)).symm
    · refine (gated1 (k0_pay3 (iblk m c 4 t) (iblk m c 5 t) (iblk m c 6 t)) _ _ _ _ _ _ i e).trans ?_
      exact (gated_eq (seen_eq (at0 m c) (seqOf t) 1 (chunkOf t) (fun i d => (View.ld_unit_apply_of _ _ _ _ _ (ix2 i ⟨1 * 128 + d.val, by omega⟩) (by exact placed2)).trans (q_entry m c t i ⟨1 * 128 + d.val, by omega⟩))
          (fun i d => (View.ld_unit_apply_of _ _ _ _ _ (ix2 i ⟨1 * 128 + d.val, by omega⟩) (by exact placed2)).trans (k_entry m c t i ⟨1 * 128 + d.val, by omega⟩)) (a_entry m c t)
          (fun i e => (View.ld_unit_apply_of _ _ _ _ _ (ix2 i ⟨1 * 256 + e.val, by omega⟩) (by exact placed2)).trans (v_entry m c t i ⟨1 * 256 + e.val, by omega⟩)))
          (fun d e => (View.ld_unit_apply_of _ _ _ _ _ (ix3 1 d e) (placed3 1 d e)).trans (hS 1 d e)) (g_entry m c t)
          (fun i e => (View.ld_unit_apply_of _ _ _ _ _ (ix2 i ⟨1 * 256 + e.val, by omega⟩) (by exact placed2)).trans (r_entry m c t i ⟨1 * 256 + e.val, by omega⟩)) i e).trans (resultAt_emb _ _ _ 1 i e (inb := inb_S64x1024_S64x256_0_256)).symm
    · refine (gated0 _ _ _ _ _ _ (iblk m c 4 t) (iblk m c 5 t) (iblk m c 6 t) i e).trans ?_
      exact (gated_eq (seen_eq (at0 m c) (seqOf t) 0 (chunkOf t) (fun i d => (View.ld_unit_apply_of _ _ _ _ _ (ix2 i ⟨0 * 128 + d.val, by omega⟩) (by exact placed2)).trans (q_entry m c t i ⟨0 * 128 + d.val, by omega⟩))
          (fun i d => (View.ld_unit_apply_of _ _ _ _ _ (ix2 i ⟨0 * 128 + d.val, by omega⟩) (by exact placed2)).trans (k_entry m c t i ⟨0 * 128 + d.val, by omega⟩)) (a_entry m c t)
          (fun i e => (View.ld_unit_apply_of _ _ _ _ _ (ix2 i ⟨0 * 256 + e.val, by omega⟩) (by exact placed2)).trans (v_entry m c t i ⟨0 * 256 + e.val, by omega⟩)))
          (fun d e => (View.ld_unit_apply_of _ _ _ _ _ (ix3 0 d e) (placed3 0 d e)).trans (hS 0 d e)) (g_entry m c t)
          (fun i e => (View.ld_unit_apply_of _ _ _ _ _ (ix2 i ⟨0 * 256 + e.val, by omega⟩) (by exact placed2)).trans (r_entry m c t i ⟨0 * 256 + e.val, by omega⟩)) i e).trans (resultAt_emb _ _ _ 0 i e (inb := inb_S64x1024_S64x256_0_0)).symm
  · have hS := ih h0
    rw [outsAt0_B m c t h0]
    frame_out
    rw [read_unread_whole]
    generalize (outsAt0 m c (t.val - 1) _).2 = Sc at hS ⊢
    refine View.canon_append_of_piecesOf (Val := Elt Ideal) (s := S64x1024) (e := .bf16) (resultAt (at0 m c) (seqOf t) (chunkOf t))
      [] [_, _, _, _] ⟨?_, ?_, ?_, ?_, trivial⟩ y ?cov
    case cov => exact View.cover_of_tiled_head _ _ _ (by rfl) y
    all_goals intro x
    all_goals obtain ⟨i, e, rfl⟩ : ∃ i e, x = ix2 i e := ⟨x 0, x 1, (ix2_eta x).symm⟩
    · refine (gated3 (k0_pay3 (iblk m c 4 t) (iblk m c 5 t) (iblk m c 6 t)) _ _ _ _ _ _ i e).trans ?_
      exact (gated_eq (seen_eq (at0 m c) (seqOf t) 3 (chunkOf t) (fun i d => (View.ld_unit_apply_of _ _ _ _ _ (ix2 i ⟨3 * 128 + d.val, by omega⟩) (by exact placed2)).trans (q_entry m c t i ⟨3 * 128 + d.val, by omega⟩))
          (fun i d => (View.ld_unit_apply_of _ _ _ _ _ (ix2 i ⟨3 * 128 + d.val, by omega⟩) (by exact placed2)).trans (k_entry m c t i ⟨3 * 128 + d.val, by omega⟩)) (a_entry m c t)
          (fun i e => (View.ld_unit_apply_of _ _ _ _ _ (ix2 i ⟨3 * 256 + e.val, by omega⟩) (by exact placed2)).trans (v_entry m c t i ⟨3 * 256 + e.val, by omega⟩)))
          (fun d e => (View.ld_unit_apply_of _ _ _ _ _ (ix3 3 d e) (placed3 3 d e)).trans (hS 3 d e)) (g_entry m c t)
          (fun i e => (View.ld_unit_apply_of _ _ _ _ _ (ix2 i ⟨3 * 256 + e.val, by omega⟩) (by exact placed2)).trans (r_entry m c t i ⟨3 * 256 + e.val, by omega⟩)) i e).trans (resultAt_emb _ _ _ 3 i e (inb := inb_S64x1024_S64x256_0_768)).symm
    · refine (gated2 (k0_pay3 (iblk m c 4 t) (iblk m c 5 t) (iblk m c 6 t)) _ _ _ _ _ _ i e).trans ?_
      exact (gated_eq (seen_eq (at0 m c) (seqOf t) 2 (chunkOf t) (fun i d => (View.ld_unit_apply_of _ _ _ _ _ (ix2 i ⟨2 * 128 + d.val, by omega⟩) (by exact placed2)).trans (q_entry m c t i ⟨2 * 128 + d.val, by omega⟩))
          (fun i d => (View.ld_unit_apply_of _ _ _ _ _ (ix2 i ⟨2 * 128 + d.val, by omega⟩) (by exact placed2)).trans (k_entry m c t i ⟨2 * 128 + d.val, by omega⟩)) (a_entry m c t)
          (fun i e => (View.ld_unit_apply_of _ _ _ _ _ (ix2 i ⟨2 * 256 + e.val, by omega⟩) (by exact placed2)).trans (v_entry m c t i ⟨2 * 256 + e.val, by omega⟩)))
          (fun d e => (View.ld_unit_apply_of _ _ _ _ _ (ix3 2 d e) (placed3 2 d e)).trans (hS 2 d e)) (g_entry m c t)
          (fun i e => (View.ld_unit_apply_of _ _ _ _ _ (ix2 i ⟨2 * 256 + e.val, by omega⟩) (by exact placed2)).trans (r_entry m c t i ⟨2 * 256 + e.val, by omega⟩)) i e).trans (resultAt_emb _ _ _ 2 i e (inb := inb_S64x1024_S64x256_0_512)).symm
    · refine (gated1 (k0_pay3 (iblk m c 4 t) (iblk m c 5 t) (iblk m c 6 t)) _ _ _ _ _ _ i e).trans ?_
      exact (gated_eq (seen_eq (at0 m c) (seqOf t) 1 (chunkOf t) (fun i d => (View.ld_unit_apply_of _ _ _ _ _ (ix2 i ⟨1 * 128 + d.val, by omega⟩) (by exact placed2)).trans (q_entry m c t i ⟨1 * 128 + d.val, by omega⟩))
          (fun i d => (View.ld_unit_apply_of _ _ _ _ _ (ix2 i ⟨1 * 128 + d.val, by omega⟩) (by exact placed2)).trans (k_entry m c t i ⟨1 * 128 + d.val, by omega⟩)) (a_entry m c t)
          (fun i e => (View.ld_unit_apply_of _ _ _ _ _ (ix2 i ⟨1 * 256 + e.val, by omega⟩) (by exact placed2)).trans (v_entry m c t i ⟨1 * 256 + e.val, by omega⟩)))
          (fun d e => (View.ld_unit_apply_of _ _ _ _ _ (ix3 1 d e) (placed3 1 d e)).trans (hS 1 d e)) (g_entry m c t)
          (fun i e => (View.ld_unit_apply_of _ _ _ _ _ (ix2 i ⟨1 * 256 + e.val, by omega⟩) (by exact placed2)).trans (r_entry m c t i ⟨1 * 256 + e.val, by omega⟩)) i e).trans (resultAt_emb _ _ _ 1 i e (inb := inb_S64x1024_S64x256_0_256)).symm
    · refine (gated0 _ _ _ _ _ _ (iblk m c 4 t) (iblk m c 5 t) (iblk m c 6 t) i e).trans ?_
      exact (gated_eq (seen_eq (at0 m c) (seqOf t) 0 (chunkOf t) (fun i d => (View.ld_unit_apply_of _ _ _ _ _ (ix2 i ⟨0 * 128 + d.val, by omega⟩) (by exact placed2)).trans (q_entry m c t i ⟨0 * 128 + d.val, by omega⟩))
          (fun i d => (View.ld_unit_apply_of _ _ _ _ _ (ix2 i ⟨0 * 128 + d.val, by omega⟩) (by exact placed2)).trans (k_entry m c t i ⟨0 * 128 + d.val, by omega⟩)) (a_entry m c t)
          (fun i e => (View.ld_unit_apply_of _ _ _ _ _ (ix2 i ⟨0 * 256 + e.val, by omega⟩) (by exact placed2)).trans (v_entry m c t i ⟨0 * 256 + e.val, by omega⟩)))
          (fun d e => (View.ld_unit_apply_of _ _ _ _ _ (ix3 0 d e) (placed3 0 d e)).trans (hS 0 d e)) (g_entry m c t)
          (fun i e => (View.ld_unit_apply_of _ _ _ _ _ (ix2 i ⟨0 * 256 + e.val, by omega⟩) (by exact placed2)).trans (r_entry m c t i ⟨0 * 256 + e.val, by omega⟩)) i e).trans (resultAt_emb _ _ _ 0 i e (inb := inb_S64x1024_S64x256_0_0)).symm

/-- After every point the scratch holds its sequence's states up to its chunk. -/
theorem holds (c : Dev nD) : ∀ (n : ℕ) (hn : n < cfg0.N),
    Holds (at0 m c) (seqOf ⟨n, hn⟩) ((chunkOf ⟨n, hn⟩).val + 1) (outsAt0 m c n hn).2
  | 0, hn => state_point m c ⟨0, hn⟩ fun h => absurd rfl h
  | n + 1, hn => state_point m c ⟨n + 1, hn⟩ fun h => by
    have ih := holds c n (by omega)
    have h' : ¬ (n + 1) % 64 = 0 := h
    have e1 : seqOf ⟨n + 1, hn⟩ = seqOf ⟨n, by omega⟩ := Fin.ext (by show (n + 1) / 64 = n / 64; omega)
    have e2 : (chunkOf ⟨n + 1, hn⟩).val = (chunkOf ⟨n, by omega⟩).val + 1 := by show (n + 1) % 64 = n % 64 + 1; omega
    rw [e1, e2]
    exact ih

/-- The kernel leaves the result. -/
theorem final (c : Dev nD) : (dats m 0 c).arrAt 8 (cfgs 0).N = resultArray (at0 m c) := by
  refine (dats m 0 c).arrAt_eq_of_covers 8 _ (by decide +kernel) fun t _ y => ?_
  have hN : t.val < cfg0.N := t.isLt
  have h := result_point m c t (fun h => by
    obtain ⟨n, hn⟩ : ∃ n, t.val = n + 1 := Nat.exists_eq_succ_of_ne_zero (fun e => h (by rw [e]))
    have ih := holds m c (t.val - 1) (by omega)
    have e1 : seqOf ⟨t.val - 1, by omega⟩ = seqOf t := Fin.ext (by show (t.val - 1) / 64 = t.val / 64; omega)
    have e2 : (chunkOf t).val = (chunkOf ⟨t.val - 1, by omega⟩).val + 1 := by show t.val % 64 = (t.val - 1) % 64 + 1; omega
    rw [e2, ← e1]
    exact ih) y
  obtain ⟨i, q, rfl⟩ : ∃ i q, y = ix2 i q := ⟨_, _, (ix2_eta y).symm⟩
  have ht := points t
  have e : ((cfg0.win 8).blk t).view.emb (ix2 i q) = ix2 (⟨t.val * 64 + i.val, by omega⟩ : Fin 16384) q := by blk_ext [idx t]
  show _ = resultArray (at0 m c) (((cfg0.win 8).blk t).view.emb (ix2 i q))
  rw [e]
  refine (h.trans ?_)
  have e0 : (⟨(t.val * 64 + i.val) / 4096, by omega⟩ : Fin 4) = seqOf t := Fin.ext (by show (t.val * 64 + i.val) / 4096 = t.val / 64; omega)
  have e1 : (⟨(t.val * 64 + i.val) % 4096 / 64, by omega⟩ : Fin 64) = chunkOf t :=
    Fin.ext (by show (t.val * 64 + i.val) % 4096 / 64 = t.val % 64; omega)
  have e2 : (⟨(t.val * 64 + i.val) % 64, Nat.mod_lt _ (by decide)⟩ : Fin 64) = i := Fin.ext (by show (t.val * 64 + i.val) % 64 = i.val; omega)
  show _ = (at0 m c).result ⟨(t.val * 64 + i.val) / 4096, _⟩ _ ⟨(t.val * 64 + i.val) % 4096 / 64, _⟩ ⟨(t.val * 64 + i.val) % 64, _⟩ _
  rw [e0, e1, e2]
  rfl

end Cert.Proof.Gla
-- ==== Proof.Gla.Cumsum.lean ====
/- The running sums as the reference forms them: a window of 64 rows, padded by 63 rows of zeros above, summed. -/
module

public import proofs.«01_k».proof.Proof.Gla.Math

@[expose] public section

set_option maxRecDepth 16384

noncomputable section

open Idealize.ShloMosaic

namespace Cert.Proof.Gla

/-- A left fold of additions from zero is the sum. -/
theorem foldl_sum {N : ℕ} (g : Fin N → EReal) : (List.finRange N).foldl (fun r n => r + g n) 0 = ∑ n, g n := by
  rw [Fin.sum_univ_def, List.sum_eq_foldl, List.foldl_map]

/-- The window of one column of 64 rows. -/
abbrev Win : Shape := ⟨5, ![1, 1, 1, 64, 1]⟩

/-- A window position is its row. -/
def winRow : Fin 64 ≃ Win.Idx where
  toFun k := ix5 (0 : Fin 1) (0 : Fin 1) (0 : Fin 1) k (0 : Fin 1)
  invFun w := w 3
  left_inv k := rfl
  right_inv w := by
    refine funext fun a => Fin.ext ?_
    have h0 : (w 0).val < 1 := (w 0).isLt
    have h1 : (w 1).val < 1 := (w 1).isLt
    have h2 : (w 2).val < 1 := (w 2).isLt
    have h4 : (w 4).val < 1 := (w 4).isLt
    match a with
    | ⟨0, _⟩ => show 0 = (w 0).val; omega
    | ⟨1, _⟩ => show 0 = (w 1).val; omega
    | ⟨2, _⟩ => show 0 = (w 2).val; omega
    | ⟨3, _⟩ => rfl
    | ⟨4, _⟩ => show 0 = (w 4).val; omega

/-- The window's rows that lie inside the array are the rows up to the window's own. -/
theorem sum_window (f : Fin 64 → EReal) (i : Fin 64) :
    (∑ k : Fin 64, if h : 63 ≤ i.val + k.val then f ⟨i.val + k.val - 63, by omega⟩ else 0) = cum f i := by
  unfold cum
  rw [← Finset.sum_filter, ← Finset.sum_filter_add_sum_filter_not Finset.univ (fun k : Fin 64 => 63 ≤ i.val + k.val),
    Finset.sum_eq_zero (s := Finset.univ.filter fun k : Fin 64 => ¬ 63 ≤ i.val + k.val) (fun k hk => dif_neg (Finset.mem_filter.mp hk).2), add_zero]
  refine Finset.sum_bij' (fun k hk => ⟨i.val + k.val - 63, by omega⟩) (fun j hj => ⟨j.val + 63 - i.val, ?_⟩) ?_ ?_ ?_ ?_ ?_
  · have := (Finset.mem_filter.mp hj).2; omega
  · intro k hk; have := (Finset.mem_filter.mp hk).2; exact Finset.mem_filter.mpr ⟨Finset.mem_univ _, by show i.val + k.val - 63 ≤ i.val; omega⟩
  · intro j hj; have := (Finset.mem_filter.mp hj).2; exact Finset.mem_filter.mpr ⟨Finset.mem_univ _, by show 63 ≤ i.val + (j.val + 63 - i.val); omega⟩
  · intro k hk; have := (Finset.mem_filter.mp hk).2; exact Fin.ext (by show i.val + k.val - 63 + 63 - i.val = k.val; omega)
  · intro j hj; have := (Finset.mem_filter.mp hj).2; exact Fin.ext (by show i.val + (j.val + 63 - i.val) - 63 = j.val; omega)
  · intro k hk; exact dif_pos (Finset.mem_filter.mp hk).2

/-- The reference's running sum, at an entry. -/
theorem cumsum_apply (x : FVec Ideal ⟨5, ![64, 4, 4, 64, 128]⟩ .f32) (v : FVec Ideal ⟨0, ![]⟩ .f32) (hv : v ix0 = 0)
    (hR : (⟨5, ![64, 4, 4, 64, 128]⟩ : Shape).ReduceWindows (![1, 1, 1, 64, 1] : Fin 5 → Nat) ![1, 1, 1, 1, 1] ![0, 0, 0, 63, 0] ![0, 0, 0, 0, 0]
      ⟨5, ![64, 4, 4, 64, 128]⟩) (hu : 0 < (⟨0, ![]⟩ : Shape).numel) (n : Fin 64) (b h : Fin 4) (i : Fin 64) (d : Fin 128) :
    Host.reduceWindowAdd ![1, 1, 1, 64, 1] ![1, 1, 1, 1, 1] ![0, 0, 0, 63, 0] ![0, 0, 0, 0, 0] x v hR hu (ix5 n b h i d)
      = cum (fun j => x (ix5 n b h j d)) i := by
  have hv' : v (Shape.Idx.first hu) = 0 := (congrArg v (funext fun a => a.elim0)).trans hv
  show Host.reduceWindow (· + ·) ![1, 1, 1, 64, 1] ![1, 1, 1, 1, 1] ![0, 0, 0, 63, 0] ![0, 0, 0, 0, 0] x
    (fun _ : (⟨0, ![]⟩ : Shape).Idx => v (Shape.Idx.first hu)) hR hu (ix5 n b h i d) = _
  rw [hv']
  unfold Host.reduceWindow
  refine (foldl_sum _).trans ?_
  refine Eq.trans (Fintype.sum_equiv (Win.rowMajor.symm.trans winRow.symm) _
    (fun k : Fin 64 => if _hk : 63 ≤ i.val + k.val then x (ix5 n b h ⟨i.val + k.val - 63, by omega⟩ d) else 0) fun p => ?_)
    (sum_window (fun j => x (ix5 n b h j d)) i)
  have h0 : (Win.rowMajor.symm p 0).val < 1 := (Win.rowMajor.symm p 0).isLt
  have h1 : (Win.rowMajor.symm p 1).val < 1 := (Win.rowMajor.symm p 1).isLt
  have h2 : (Win.rowMajor.symm p 2).val < 1 := (Win.rowMajor.symm p 2).isLt
  have h3 : (Win.rowMajor.symm p 3).val < 64 := (Win.rowMajor.symm p 3).isLt
  have h4 : (Win.rowMajor.symm p 4).val < 1 := (Win.rowMajor.symm p 4).isLt
  by_cases hk : 63 ≤ i.val + (Win.rowMajor.symm p 3).val
  · refine Eq.trans (dif_pos (fun a => ?_)) (Eq.trans ?_ (dif_pos (c := 63 ≤ i.val + (Win.rowMajor.symm p 3).val) hk).symm)
    · match a with
      | ⟨0, _⟩ => show 0 ≤ n.val * 1 + (Win.rowMajor.symm p 0).val ∧ n.val * 1 + (Win.rowMajor.symm p 0).val - 0 < 64; omega
      | ⟨1, _⟩ => show 0 ≤ b.val * 1 + (Win.rowMajor.symm p 1).val ∧ b.val * 1 + (Win.rowMajor.symm p 1).val - 0 < 4; omega
      | ⟨2, _⟩ => show 0 ≤ h.val * 1 + (Win.rowMajor.symm p 2).val ∧ h.val * 1 + (Win.rowMajor.symm p 2).val - 0 < 4; omega
      | ⟨3, _⟩ => show 63 ≤ i.val * 1 + (Win.rowMajor.symm p 3).val ∧ i.val * 1 + (Win.rowMajor.symm p 3).val - 63 < 64; omega
      | ⟨4, _⟩ => show 0 ≤ d.val * 1 + (Win.rowMajor.symm p 4).val ∧ d.val * 1 + (Win.rowMajor.symm p 4).val - 0 < 128; omega
    · refine congrArg x (funext fun a => Fin.ext ?_)
      match a with
      | ⟨0, _⟩ => show n.val * 1 + (Win.rowMajor.symm p 0).val - 0 = n.val; omega
      | ⟨1, _⟩ => show b.val * 1 + (Win.rowMajor.symm p 1).val - 0 = b.val; omega
      | ⟨2, _⟩ => show h.val * 1 + (Win.rowMajor.symm p 2).val - 0 = h.val; omega
      | ⟨3, _⟩ => show i.val * 1 + (Win.rowMajor.symm p 3).val - 63 = i.val + (Win.rowMajor.symm p 3).val - 63; omega
      | ⟨4, _⟩ => show d.val * 1 + (Win.rowMajor.symm p 4).val - 0 = d.val; omega
  · refine Eq.trans (dif_neg (fun hin => hk ?_)) (Eq.symm (dif_neg hk))
    have h := (hin 3).1
    have h' : 63 ≤ i.val * 1 + (Win.rowMajor.symm p 3).val := h
    omega

end Cert.Proof.Gla

end
-- ==== Proof.Gla.Slices.lean ====
/- The reference's arrays before its loop over the chunks. -/
module

public import proofs.«01_k».proof.Proof.Gla.Cumsum
public import proofs.«01_k».proof.Proof.Gen.ReferenceIdeal.Run

@[expose] public section

set_option maxRecDepth 16384

noncomputable section

open Idealize.ShloMosaic Idealize.ShloMosaic.TcCoe Idealize.SL.Sem
open Idealize.ShloMosaic.StableHlo

namespace Cert.Proof.GlaReference

open Cert.ReferenceIdeal Cert.ReferenceIdeal.Gen Cert.ReferenceIdeal.Value Cert.Proof.Gla

variable (m : (ℓ : Loc nD τ sig) → Buf (Elt Ideal) ℓ)

/-- The arrays the reference is launched on. -/
abbrev at0 (c : Dev nD) : Arrays :=
  arrays (m ((c : Thread nD τ).loc main_arg0)) (m ((c : Thread nD τ).loc main_arg1)) (m ((c : Thread nD τ).loc main_arg2))
    (m ((c : Thread nD τ).loc main_arg3)) (m ((c : Thread nD τ).loc main_arg4))

/-- The buffers once the running sums of the log gates are made. -/
def base (c : Dev nD) : Valuation τ sig (Elt Ideal) := afterL [hostOps0, hostOps0_1, hostOps0_2, hostOps0_3] (launchContents m c)

theorem entry_split (c : Dev nD) :
    entryContents preI m c = afterL [hostOps0_4, hostOps0_5, hostOps0_6, hostOps0_7, hostOps0_8] (base m c) := rfl

variable (X : Valuation τ sig (Elt Ideal))

theorem keep1 (r : Ref sig .tc) (h : r ∉ hostOps0_1_W) : after hostOps0_1 X (Proc.devRef .tc r) = X (Proc.devRef .tc r) :=
  after_of_writes_sub hostOps0_1 X hostOps0_1_writes h
theorem keep2 (r : Ref sig .tc) (h : r ∉ hostOps0_2_W) : after hostOps0_2 X (Proc.devRef .tc r) = X (Proc.devRef .tc r) :=
  after_of_writes_sub hostOps0_2 X hostOps0_2_writes h
theorem keep3 (r : Ref sig .tc) (h : r ∉ hostOps0_3_W) : after hostOps0_3 X (Proc.devRef .tc r) = X (Proc.devRef .tc r) :=
  after_of_writes_sub hostOps0_3 X hostOps0_3_writes h

/-! ## The slices of the projection and the gate -/

theorem v1_read (r : Fin 4) (j : Fin 4096) (h : Fin 4) (d : Fin 128) :
    (after hostOps0 X (Proc.devRef .tc main_v1) : FVec Ideal S4x4096x4x128 .f32) (ix4 r j h d)
      = (X (Proc.devRef .tc main_arg0) : FVec Ideal S16384x5120 .f32) (ix2 ⟨r.val * 4096 + j.val, by omega⟩ ⟨2048 + (h.val * 128 + d.val), by omega⟩) := by
  after_results
  pointwise

theorem v3_read (r : Fin 4) (j : Fin 4096) (h : Fin 4) (d : Fin 128) :
    (after hostOps0 X (Proc.devRef .tc main_v3) : FVec Ideal S4x4096x4x128 .f32) (ix4 r j h d)
      = (X (Proc.devRef .tc main_arg0) : FVec Ideal S16384x5120 .f32) (ix2 ⟨r.val * 4096 + j.val, by omega⟩ ⟨2560 + (h.val * 128 + d.val), by omega⟩) := by
  after_results
  pointwise

theorem v5_read (r : Fin 4) (j : Fin 4096) (h : Fin 4) (d : Fin 256) :
    (after hostOps0 X (Proc.devRef .tc main_v5) : FVec Ideal S4x4096x4x256 .f32) (ix4 r j h d)
      = (X (Proc.devRef .tc main_arg0) : FVec Ideal S16384x5120 .f32) (ix2 ⟨r.val * 4096 + j.val, by omega⟩ ⟨3072 + (h.val * 256 + d.val), by omega⟩) := by
  after_results
  pointwise

theorem v10_read (c : Dev nD) (r : Fin 16384) (q : Fin 512) :
    (after hostOps0 (launchContents m c) (Proc.devRef .tc main_v10) : FVec Ideal S16384x512 .f32) (ix2 r q) = (at0 m c).gate r q := by
  after_results
  pointwise
  rfl

/-- The logarithm of the sigmoid, as the reference forms it. -/
def lsig (x : FVec Ideal S16384x512 .f32) : FVec Ideal S16384x512 .f32 :=
  Host.negf (select
    (cmpf .une (subf (Host.negf x) (broadcastInDim S16384x512 ![] bcast_S_S16384x512 (constant S_ .f32 0x00000000#32)))
      (subf (Host.negf x) (broadcastInDim S16384x512 ![] bcast_S_S16384x512 (constant S_ .f32 0x00000000#32))))
    (addf (Host.negf x) (broadcastInDim S16384x512 ![] bcast_S_S16384x512 (constant S_ .f32 0x00000000#32)))
    (addf (maximumf (Host.negf x) (broadcastInDim S16384x512 ![] bcast_S_S16384x512 (constant S_ .f32 0x00000000#32)))
      (Host.log1p (Host.exp (Host.negf (Host.absf (subf (Host.negf x) (broadcastInDim S16384x512 ![] bcast_S_S16384x512 (constant S_ .f32 0x00000000#32)))))))))

theorem lsig_apply (x : FVec Ideal S16384x512 .f32) (r : Fin 16384) (q : Fin 512) :
    Ideal.div (lsig x (ix2 r q)) (Ideal.ofBits .f32 0x41800000#32) = logGate (x (ix2 r q)) := by
  have h := logGate_eq (x (ix2 r q))
  simp only [sub_zero] at h
  pointwise [lsig]
  rw [if_neg (not_not.mpr rfl)]
  exact h

theorem v11_read : (after hostOps0_1 X (Proc.devRef .tc main_v11) : FVec Ideal S16384x512 .f32) = lsig (X (Proc.devRef .tc main_v10)) := by
  after_results
  rfl

/-! ## The arrays by chunk and head -/

theorem v18_read (n : Fin 64) (b h : Fin 4) (i : Fin 64) (d : Fin 128) :
    (after hostOps0_2 X (Proc.devRef .tc main_v18) : FVec Ideal S64x4x4x64x128 .f32) (ix5 n b h i d)
      = @HMul.hMul EReal EReal EReal _ ((X (Proc.devRef .tc main_v1) : FVec Ideal S4x4096x4x128 .f32) (ix4 b ⟨n.val * 64 + i.val, by omega⟩ h d)) sc := by
  after_reads_simp
  pointwise [sc]

theorem v20_read (n : Fin 64) (b h : Fin 4) (i : Fin 64) (d : Fin 128) :
    (after hostOps0_2 X (Proc.devRef .tc main_v20) : FVec Ideal S64x4x4x64x128 .f32) (ix5 n b h i d)
      = (X (Proc.devRef .tc main_v3) : FVec Ideal S4x4096x4x128 .f32) (ix4 b ⟨n.val * 64 + i.val, by omega⟩ h d) := by
  after_reads_simp
  pointwise

theorem v22_read (n : Fin 64) (b h : Fin 4) (i : Fin 64) (d : Fin 256) :
    (after hostOps0_2 X (Proc.devRef .tc main_v22) : FVec Ideal S64x4x4x64x256 .f32) (ix5 n b h i d)
      = (X (Proc.devRef .tc main_v5) : FVec Ideal S4x4096x4x256 .f32) (ix4 b ⟨n.val * 64 + i.val, by omega⟩ h d) := by
  after_reads_simp
  pointwise

theorem v24_read (n : Fin 64) (b h : Fin 4) (i : Fin 64) (d : Fin 128) :
    (after hostOps0_2 X (Proc.devRef .tc main_v24) : FVec Ideal S64x4x4x64x128 .f32) (ix5 n b h i d)
      = Ideal.div ((X (Proc.devRef .tc main_v11) : FVec Ideal S16384x512 .f32) (ix2 ⟨b.val * 4096 + n.val * 64 + i.val, by omega⟩ ⟨h.val * 128 + d.val, by omega⟩)) (Ideal.ofBits .f32 0x41800000#32) := by
  after_reads_simp
  pointwise

theorem v25_read (n : Fin 64) (b h : Fin 4) (i : Fin 64) (d : Fin 128) :
    (after hostOps0_3 X (Proc.devRef .tc main_v25) : FVec Ideal S64x4x4x64x128 .f32) (ix5 n b h i d)
      = cum (fun j => (X (Proc.devRef .tc main_v24) : FVec Ideal S64x4x4x64x128 .f32) (ix5 n b h j d)) i := by
  after_results
  exact cumsum_apply _ _ (by
    show broadcastInDim S_ ![] bcast_S_S_ (constant S_ .f32 0#32) ix0 = (0 : Ideal .f32)
    pointwise) _ _ n b h i d

/-! ## What the stretches leave together -/

theorem row_eq (b : Fin 4) (n i : Fin 64) (h : b.val * 4096 + (n.val * 64 + i.val) < 16384) :
    (⟨b.val * 4096 + (n.val * 64 + i.val), h⟩ : Fin 16384) = Arrays.row b n i := Fin.ext (Nat.add_assoc _ _ _).symm

theorem base_eq (c : Dev nD) :
    base m c = after hostOps0_3 (after hostOps0_2 (after hostOps0_1 (after hostOps0 (launchContents m c)))) := rfl

theorem q_base (c : Dev nD) (n : Fin 64) (b h : Fin 4) (i : Fin 64) (d : Fin 128) :
    (base m c (Proc.devRef .tc main_v18) : FVec Ideal S64x4x4x64x128 .f32) (ix5 n b h i d) = ((at0 m c).chunk b h n).q i d * sc := by
  rw [base_eq]
  rw [keep3 _ main_v18 (by decide), v18_read, keep1 _ main_v1 (by decide), v1_read]
  rw [row_eq]
  rfl

theorem k_base (c : Dev nD) (n : Fin 64) (b h : Fin 4) (i : Fin 64) (d : Fin 128) :
    (base m c (Proc.devRef .tc main_v20) : FVec Ideal S64x4x4x64x128 .f32) (ix5 n b h i d) = ((at0 m c).chunk b h n).k i d := by
  rw [base_eq]
  rw [keep3 _ main_v20 (by decide), v20_read, keep1 _ main_v3 (by decide), v3_read]
  rw [row_eq]
  rfl

theorem v_base (c : Dev nD) (n : Fin 64) (b h : Fin 4) (i : Fin 64) (e : Fin 256) :
    (base m c (Proc.devRef .tc main_v22) : FVec Ideal S64x4x4x64x256 .f32) (ix5 n b h i e) = ((at0 m c).chunk b h n).v i e := by
  rw [base_eq]
  rw [keep3 _ main_v22 (by decide), v22_read, keep1 _ main_v5 (by decide), v5_read]
  rw [row_eq]
  rfl

theorem dec_base (c : Dev nD) (n : Fin 64) (b h : Fin 4) (i : Fin 64) (d : Fin 128) :
    (base m c (Proc.devRef .tc main_v25) : FVec Ideal S64x4x4x64x128 .f32) (ix5 n b h i d) = ((at0 m c).chunk b h n).dec i d := by
  rw [base_eq]
  rw [v25_read]
  refine congrArg (cum · i) (funext fun j => ?_)
  rw [v24_read, v11_read, lsig_apply, v10_read]
  rfl

end Cert.Proof.GlaReference

end
-- ==== Proof.Gla.Stages.lean ====
/- The reference's chunk-local arrays, from the queries, keys, values and running decays. -/
module

public import proofs.«01_k».proof.Proof.Gla.Math
public import proofs.«01_k».proof.Proof.Gen.ReferenceIdeal.Run

@[expose] public section

set_option maxRecDepth 16384

noncomputable section

open Idealize.ShloMosaic Idealize.ShloMosaic.TcCoe Idealize.SL.Sem
open Idealize.ShloMosaic.StableHlo

namespace Cert.Proof.GlaReference

open Cert.ReferenceIdeal Cert.ReferenceIdeal.Gen Cert.ReferenceIdeal.Value Cert.Proof.Gla

variable (X : Valuation τ sig (Elt Ideal))

/-- A product of two entries. -/
abbrev mul (a b : EReal) : EReal := a * b

/-! ## The decays -/

theorem v26_read (n : Fin 64) (b h : Fin 4) (d : Fin 128) :
    (after hostOps0_4 X (Proc.devRef .tc main_v26) : FVec Ideal S64x4x4x1x128 .f32) (ix5 n b h 0 d) = (X (Proc.devRef .tc main_v25) : FVec Ideal S64x4x4x64x128 .f32) (ix5 n b h 63 d) := by
  after_results
  pointwise

theorem v32_read (n : Fin 64) (b h : Fin 4) (i : Fin 64) (d : Fin 128) :
    (after hostOps0_4 X (Proc.devRef .tc main_v32) : FVec Ideal S64x4x4x64x128 .f32) (ix5 n b h i d)
      = mul ((X (Proc.devRef .tc main_v18) : FVec Ideal S64x4x4x64x128 .f32) (ix5 n b h i d)) (Ideal.exp (@HSub.hSub EReal EReal EReal _ ((X (Proc.devRef .tc main_v25) : FVec Ideal S64x4x4x64x128 .f32) (ix5 n b h i d)) (mul half ((X (Proc.devRef .tc main_v25) : FVec Ideal S64x4x4x64x128 .f32) (ix5 n b h 63 d))))) := by
  after_results
  pointwise [half, mul]

theorem v36_read (n : Fin 64) (b h : Fin 4) (i : Fin 64) (d : Fin 128) :
    (after hostOps0_4 X (Proc.devRef .tc main_v36) : FVec Ideal S64x4x4x64x128 .f32) (ix5 n b h i d)
      = mul ((X (Proc.devRef .tc main_v20) : FVec Ideal S64x4x4x64x128 .f32) (ix5 n b h i d)) (Ideal.exp (@HSub.hSub EReal EReal EReal _ (mul half ((X (Proc.devRef .tc main_v25) : FVec Ideal S64x4x4x64x128 .f32) (ix5 n b h 63 d))) ((X (Proc.devRef .tc main_v25) : FVec Ideal S64x4x4x64x128 .f32) (ix5 n b h i d)))) := by
  after_results
  pointwise [half, mul]

theorem v37_read : (after hostOps0_4 X (Proc.devRef .tc main_v37) : IVec S64x64 1) = broadcastInDim S64x64 ![] bcast_S_S64x64 (constantI S_ 1 1#1) := by
  after_results

/-! ## The causal mask -/

theorem v38_read : (after hostOps0_5 X (Proc.devRef .tc main_v38) : IVec S64x64 1)
    = select (cmpi .sge (addi (iotaInDim S64x64 32 0) (broadcastInDim S64x64 ![] bcast_S_S64x64 (constantI S_ 32 0#32))) (iotaInDim S64x64 32 1))
      (X (Proc.devRef .tc main_v37)) (broadcastInDim S64x64 ![] bcast_S_S64x64 (constantI S_ 1 0#1)) := by
  after_results
  rfl

theorem mask_apply (i j : Fin 64) :
    select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) (ix2 i j)
      = if j.val ≤ i.val then 1#1 else 0#1 := by
  pointwise
  rw [show IntOp.addi (BitVec.ofNat 32 i.val) 0#32 = BitVec.ofNat 32 i.val from BitVec.add_zero _,
    WordCmp.cmpi_sge_ofNat (by omega) (by omega), WordCmp.select_decide]

/-! ## Scores -/

theorem v39_read (n : Fin 64) (b h : Fin 4) (i j : Fin 64) :
    (after hostOps0_6 X (Proc.devRef .tc main_v39) : FVec Ideal S64x4x4x64x64 .f32) (ix5 n b h i j)
      = ∑ d : Fin 128, mul ((X (Proc.devRef .tc main_v32) : FVec Ideal S64x4x4x64x128 .f32) (ix5 n b h i d)) ((X (Proc.devRef .tc main_v36) : FVec Ideal S64x4x4x64x128 .f32) (ix5 n b h j d)) := by
  after_results
  pointwise [mul]

theorem cst_2_read : (after hostOps0_6 X (Proc.devRef .tc main_cst_2) : FVec Ideal S_ .f32) = (constant S_ .f32 0x00000000#32 : FVec Ideal S_ .f32) := by
  after_results

/-- Masked scores. -/
def masked (w : IVec S64x64 1) (s : FVec Ideal S64x4x4x64x64 .f32) (z : FVec Ideal S_ .f32) : FVec Ideal S64x4x4x64x64 .f32 :=
  select (broadcastInDim S64x4x4x64x64 ![3, 4] bcast_S64x64_S64x4x4x64x64_3_4 w) s (broadcastInDim S64x4x4x64x64 ![] bcast_S_S64x4x4x64x64 z)

theorem v40_read : (after hostOps0_7 X (Proc.devRef .tc main_v40) : FVec Ideal S64x4x4x64x64 .f32) = masked (X (Proc.devRef .tc main_v38)) (X (Proc.devRef .tc main_v39)) (X (Proc.devRef .tc main_cst_2)) := by
  after_results
  rfl

theorem masked_apply (w : IVec S64x64 1) (s : FVec Ideal S64x4x4x64x64 .f32) (hw : ∀ i j : Fin 64, w (ix2 i j) = if j.val ≤ i.val then 1#1 else 0#1)
    (n : Fin 64) (b h : Fin 4) (i j : Fin 64) :
    masked w s (constant S_ .f32 0x00000000#32) (ix5 n b h i j) = if j.val ≤ i.val then s (ix5 n b h i j) else (0 : EReal) := by
  pointwise [masked]
  rw [hw]
  by_cases hij : j.val ≤ i.val
  · rw [if_pos hij, if_pos hij]; rfl
  · rw [if_neg hij, if_neg hij]; rfl

/-! ## What the loop reads -/

theorem v52_0_read (n : Fin 64) (b h : Fin 4) (i : Fin 64) (e : Fin 256) :
    (after hostOps0_8 X (Proc.devRef .tc main_v52_0) : FVec Ideal S64x4x4x64x256 .f32) (ix5 n b h i e)
      = ∑ j : Fin 64, mul ((X (Proc.devRef .tc main_v40) : FVec Ideal S64x4x4x64x64 .f32) (ix5 n b h i j)) ((X (Proc.devRef .tc main_v22) : FVec Ideal S64x4x4x64x256 .f32) (ix5 n b h j e)) := by
  after_reads_simp
  simp only [id_eq]
  pointwise [mul]

theorem v52_1_read (n : Fin 64) (b h : Fin 4) (i : Fin 64) (d : Fin 128) :
    (after hostOps0_8 X (Proc.devRef .tc main_v52_1) : FVec Ideal S64x4x4x64x128 .f32) (ix5 n b h i d) = mul ((X (Proc.devRef .tc main_v18) : FVec Ideal S64x4x4x64x128 .f32) (ix5 n b h i d)) (Ideal.exp ((X (Proc.devRef .tc main_v25) : FVec Ideal S64x4x4x64x128 .f32) (ix5 n b h i d))) := by
  after_reads_simp
  simp only [id_eq]
  pointwise [mul]

theorem v52_2_read (n : Fin 64) (b h : Fin 4) (i : Fin 64) (d : Fin 128) :
    (after hostOps0_8 X (Proc.devRef .tc main_v52_2) : FVec Ideal S64x4x4x64x128 .f32) (ix5 n b h i d)
      = mul ((X (Proc.devRef .tc main_v20) : FVec Ideal S64x4x4x64x128 .f32) (ix5 n b h i d)) (Ideal.exp (@HSub.hSub EReal EReal EReal _ ((X (Proc.devRef .tc main_v26) : FVec Ideal S64x4x4x1x128 .f32) (ix5 n b h 0 d)) ((X (Proc.devRef .tc main_v25) : FVec Ideal S64x4x4x64x128 .f32) (ix5 n b h i d)))) := by
  after_reads_simp
  simp only [id_eq]
  pointwise [mul]

theorem v52_3_read : (after hostOps0_8 X (Proc.devRef .tc main_v52_3) : FVec Ideal S64x4x4x64x256 .f32) = X (Proc.devRef .tc main_v22) := by
  after_reads_simp
  simp only [id_eq]

theorem v52_4_read (n : Fin 64) (b h : Fin 4) (d : Fin 128) :
    (after hostOps0_8 X (Proc.devRef .tc main_v52_4) : FVec Ideal S64x4x4x128 .f32) (ix4 n b h d) = Ideal.exp ((X (Proc.devRef .tc main_v26) : FVec Ideal S64x4x4x1x128 .f32) (ix5 n b h 0 d)) := by
  after_reads_simp
  simp only [id_eq]
  pointwise

theorem v52_6_read (b h : Fin 4) (d : Fin 128) (e : Fin 256) :
    (after hostOps0_8 X (Proc.devRef .tc main_v52_6) : FVec Ideal S4x4x128x256 .f32) (ix4 b h d e) = (0 : EReal) := by
  after_reads_simp
  simp only [id_eq]
  pointwise

/-! ## The stretches together -/

theorem keep4 (r : Ref sig .tc) (h : r ∉ hostOps0_4_W) : after hostOps0_4 X (Proc.devRef .tc r) = X (Proc.devRef .tc r) :=
  after_of_writes_sub hostOps0_4 X hostOps0_4_writes h
theorem keep5 (r : Ref sig .tc) (h : r ∉ hostOps0_5_W) : after hostOps0_5 X (Proc.devRef .tc r) = X (Proc.devRef .tc r) :=
  after_of_writes_sub hostOps0_5 X hostOps0_5_writes h
theorem keep6 (r : Ref sig .tc) (h : r ∉ hostOps0_6_W) : after hostOps0_6 X (Proc.devRef .tc r) = X (Proc.devRef .tc r) :=
  after_of_writes_sub hostOps0_6 X hostOps0_6_writes h
theorem keep7 (r : Ref sig .tc) (h : r ∉ hostOps0_7_W) : after hostOps0_7 X (Proc.devRef .tc r) = X (Proc.devRef .tc r) :=
  after_of_writes_sub hostOps0_7 X hostOps0_7_writes h
theorem keep8 (r : Ref sig .tc) (h : r ∉ hostOps0_8_W) : after hostOps0_8 X (Proc.devRef .tc r) = X (Proc.devRef .tc r) :=
  after_of_writes_sub hostOps0_8 X hostOps0_8_writes h

/-- The contents the loop starts from. -/
def entered : Valuation τ sig (Elt Ideal) :=
  after hostOps0_8 (after hostOps0_7 (after hostOps0_6 (after hostOps0_5 (after hostOps0_4 X))))

/-- A chunk's queries, keys, values and running decays, as the contents hold them. -/
structure Holds (x : Chunk) (n : Fin 64) (b h : Fin 4) : Prop where
  q : ∀ i d, (X (Proc.devRef .tc main_v18) : FVec Ideal S64x4x4x64x128 .f32) (ix5 n b h i d) = x.q i d * sc
  k : ∀ i d, (X (Proc.devRef .tc main_v20) : FVec Ideal S64x4x4x64x128 .f32) (ix5 n b h i d) = x.k i d
  v : ∀ i e, (X (Proc.devRef .tc main_v22) : FVec Ideal S64x4x4x64x256 .f32) (ix5 n b h i e) = x.v i e
  dec : ∀ i d, (X (Proc.devRef .tc main_v25) : FVec Ideal S64x4x4x64x128 .f32) (ix5 n b h i d) = x.dec i d

variable {X} {x : Chunk} {n : Fin 64} {b h : Fin 4} (H : Holds X x n b h)
include H

theorem intra_entered (i : Fin 64) (e : Fin 256) : (entered X (Proc.devRef .tc main_v52_0) : FVec Ideal S64x4x4x64x256 .f32) (ix5 n b h i e) = x.intra i e := by
  rw [entered, v52_0_read]
  refine Finset.sum_congr (M := EReal) rfl fun j _ => ?_
  rw [keep7 _ main_v22 (by decide), keep6 _ main_v22 (by decide), keep5 _ main_v22 (by decide), keep4 _ main_v22 (by decide), H.v,
    v40_read, cst_2_read, keep6 _ main_v38 (by decide), v38_read, v37_read, masked_apply _ _ mask_apply, v39_read,
    keep5 _ main_v32 (by decide), keep5 _ main_v36 (by decide)]
  refine congrArg (· * x.v j e) (if_congr Iff.rfl (Finset.sum_congr (M := EReal) rfl fun d _ => ?_) rfl)
  rw [v32_read, v36_read, H.q, H.k, H.dec, H.dec, H.dec]

theorem inter_entered (i : Fin 64) (d : Fin 128) : (entered X (Proc.devRef .tc main_v52_1) : FVec Ideal S64x4x4x64x128 .f32) (ix5 n b h i d) = x.q i d * sc * Ideal.exp (x.dec i d) := by
  rw [entered, v52_1_read, keep7 _ main_v18 (by decide), keep6 _ main_v18 (by decide), keep5 _ main_v18 (by decide), keep4 _ main_v18 (by decide), H.q,
    keep7 _ main_v25 (by decide), keep6 _ main_v25 (by decide), keep5 _ main_v25 (by decide), keep4 _ main_v25 (by decide), H.dec]

theorem key_entered (i : Fin 64) (d : Fin 128) : (entered X (Proc.devRef .tc main_v52_2) : FVec Ideal S64x4x4x64x128 .f32) (ix5 n b h i d) = x.k i d * Ideal.exp (x.dec 63 d - x.dec i d) := by
  rw [entered, v52_2_read, keep7 _ main_v20 (by decide), keep6 _ main_v20 (by decide), keep5 _ main_v20 (by decide), keep4 _ main_v20 (by decide), H.k,
    keep7 _ main_v25 (by decide), keep6 _ main_v25 (by decide), keep5 _ main_v25 (by decide), keep4 _ main_v25 (by decide), H.dec,
    keep7 _ main_v26 (by decide), keep6 _ main_v26 (by decide), keep5 _ main_v26 (by decide), v26_read, H.dec]

theorem value_entered (i : Fin 64) (e : Fin 256) : (entered X (Proc.devRef .tc main_v52_3) : FVec Ideal S64x4x4x64x256 .f32) (ix5 n b h i e) = x.v i e := by
  rw [entered, v52_3_read, keep7 _ main_v22 (by decide), keep6 _ main_v22 (by decide), keep5 _ main_v22 (by decide), keep4 _ main_v22 (by decide), H.v]

theorem decay_entered (d : Fin 128) : (entered X (Proc.devRef .tc main_v52_4) : FVec Ideal S64x4x4x128 .f32) (ix4 n b h d) = Ideal.exp (x.dec 63 d) := by
  rw [entered, v52_4_read, keep7 _ main_v26 (by decide), keep6 _ main_v26 (by decide), keep5 _ main_v26 (by decide), v26_read, H.dec]

end Cert.Proof.GlaReference

end
-- ==== Proof.Gla.Loop.lean ====
/- The reference's loop over the chunks. -/
module

public import proofs.«01_k».proof.Proof.Gla.Math
public import proofs.«01_k».proof.Proof.Gen.ReferenceIdeal.Run

@[expose] public section

set_option maxRecDepth 16384

noncomputable section

open Idealize.ShloMosaic Idealize.ShloMosaic.TcCoe Idealize.SL.Sem
open Idealize.ShloMosaic.StableHlo

namespace Cert.Proof.GlaReference

open Cert.ReferenceIdeal Cert.ReferenceIdeal.Gen Cert.ReferenceIdeal.Value Cert.Proof.Gla

variable (X : Valuation τ sig (Elt Ideal)) (n : Fin 64)

/-- Where the loop reads and writes at trip `n`. -/
theorem start_at (hc : X (Proc.devRef .tc main_v52_5) = fun _ => BitVec.ofNat 32 n.val) :
    (fun k => (((![X (Proc.devRef .tc main_v52_5), constantI S_ 32 0#32, constantI S_ 32 0#32, constantI S_ 32 0#32, constantI S_ 32 0#32] : Fin 5 → (⟨S_, .i32⟩ : BufTy).Contents (Elt Ideal))) k (Shape.Idx.first h_S_)).toInt)
      = ![(n.val : Int), 0, 0, 0, 0] := by
  rw [hc]
  funext k
  match k with
  | ⟨0, _⟩ => exact WordCmp.toInt_ofNat_of_lt (by omega)
  | ⟨1, _⟩ => rfl
  | ⟨2, _⟩ => rfl
  | ⟨3, _⟩ => rfl
  | ⟨4, _⟩ => rfl

/-- The same for the decays. -/
theorem start4_at (hc : X (Proc.devRef .tc main_v52_5) = fun _ => BitVec.ofNat 32 n.val) :
    (fun k => (((![X (Proc.devRef .tc main_v52_5), constantI S_ 32 0#32, constantI S_ 32 0#32, constantI S_ 32 0#32] : Fin 4 → (⟨S_, .i32⟩ : BufTy).Contents (Elt Ideal))) k (Shape.Idx.first h_S_)).toInt)
      = ![(n.val : Int), 0, 0, 0] := by
  rw [hc]
  funext k
  match k with
  | ⟨0, _⟩ => exact WordCmp.toInt_ofNat_of_lt (by omega)
  | ⟨1, _⟩ => rfl
  | ⟨2, _⟩ => rfl
  | ⟨3, _⟩ => rfl

theorem slice_128 (x : FVec Ideal S64x4x4x64x128 .f32) (st : Fin 5 → Int) (hs) (h0 : st = ![(n.val : Int), 0, 0, 0, 0]) :
    Host.dynamicSlice S1x4x4x64x128 x st hs = fun y => x (ix5 n (y 1) (y 2) (y 3) (y 4)) := by
  subst h0
  rw [WordCmp.dynamicSlice_eq_extract S1x4x4x64x128 x _ hs ![n.val, 0, 0, 0, 0] ⟨rfl, fun a => by
    match a with
    | ⟨0, _⟩ => exact n.isLt
    | ⟨1, _⟩ => exact Nat.le_refl _
    | ⟨2, _⟩ => exact Nat.le_refl _
    | ⟨3, _⟩ => exact Nat.le_refl _
    | ⟨4, _⟩ => exact Nat.le_refl _⟩ (fun a => by
    match a with
    | ⟨0, _⟩ => rfl
    | ⟨1, _⟩ => rfl
    | ⟨2, _⟩ => rfl
    | ⟨3, _⟩ => rfl
    | ⟨4, _⟩ => rfl)]
  funext y
  have h0 : (y 0).val < 1 := (y 0).isLt
  refine congrArg x (funext fun a => Fin.ext ?_)
  match a with
  | ⟨0, _⟩ => show n.val + (y 0).val = n.val; omega
  | ⟨1, _⟩ => exact Nat.zero_add _
  | ⟨2, _⟩ => exact Nat.zero_add _
  | ⟨3, _⟩ => exact Nat.zero_add _
  | ⟨4, _⟩ => exact Nat.zero_add _

theorem slice_256 (x : FVec Ideal S64x4x4x64x256 .f32) (st : Fin 5 → Int) (hs) (h0 : st = ![(n.val : Int), 0, 0, 0, 0]) :
    Host.dynamicSlice S1x4x4x64x256 x st hs = fun y => x (ix5 n (y 1) (y 2) (y 3) (y 4)) := by
  subst h0
  rw [WordCmp.dynamicSlice_eq_extract S1x4x4x64x256 x _ hs ![n.val, 0, 0, 0, 0] ⟨rfl, fun a => by
    match a with
    | ⟨0, _⟩ => exact n.isLt
    | ⟨1, _⟩ => exact Nat.le_refl _
    | ⟨2, _⟩ => exact Nat.le_refl _
    | ⟨3, _⟩ => exact Nat.le_refl _
    | ⟨4, _⟩ => exact Nat.le_refl _⟩ (fun a => by
    match a with
    | ⟨0, _⟩ => rfl
    | ⟨1, _⟩ => rfl
    | ⟨2, _⟩ => rfl
    | ⟨3, _⟩ => rfl
    | ⟨4, _⟩ => rfl)]
  funext y
  have h0 : (y 0).val < 1 := (y 0).isLt
  refine congrArg x (funext fun a => Fin.ext ?_)
  match a with
  | ⟨0, _⟩ => show n.val + (y 0).val = n.val; omega
  | ⟨1, _⟩ => exact Nat.zero_add _
  | ⟨2, _⟩ => exact Nat.zero_add _
  | ⟨3, _⟩ => exact Nat.zero_add _
  | ⟨4, _⟩ => exact Nat.zero_add _

theorem slice_decay (x : FVec Ideal S64x4x4x128 .f32) (st : Fin 4 → Int) (hs) (h0 : st = ![(n.val : Int), 0, 0, 0]) :
    Host.dynamicSlice S1x4x4x128 x st hs = fun y => x (ix4 n (y 1) (y 2) (y 3)) := by
  subst h0
  rw [WordCmp.dynamicSlice_eq_extract S1x4x4x128 x _ hs ![n.val, 0, 0, 0] ⟨rfl, fun a => by
    match a with
    | ⟨0, _⟩ => exact n.isLt
    | ⟨1, _⟩ => exact Nat.le_refl _
    | ⟨2, _⟩ => exact Nat.le_refl _
    | ⟨3, _⟩ => exact Nat.le_refl _⟩ (fun a => by
    match a with
    | ⟨0, _⟩ => rfl
    | ⟨1, _⟩ => rfl
    | ⟨2, _⟩ => rfl
    | ⟨3, _⟩ => rfl)]
  funext y
  have h0 : (y 0).val < 1 := (y 0).isLt
  refine congrArg x (funext fun a => Fin.ext ?_)
  match a with
  | ⟨0, _⟩ => show n.val + (y 0).val = n.val; omega
  | ⟨1, _⟩ => exact Nat.zero_add _
  | ⟨2, _⟩ => exact Nat.zero_add _
  | ⟨3, _⟩ => exact Nat.zero_add _

theorem update_apply (x : FVec Ideal S64x4x4x64x256 .f32) (u : FVec Ideal S1x4x4x64x256 .f32) (st : Fin 5 → Int) (hs)
    (h0 : st = ![(n.val : Int), 0, 0, 0, 0]) (n' : Fin 64) (b h : Fin 4) (i : Fin 64) (d : Fin 256) :
    Host.dynamicUpdateSlice x u st hs (ix5 n' b h i d) = if n' = n then u (ix5 0 b h i d) else x (ix5 n' b h i d) := by
  subst h0
  have c0 : Host.clampedStart S64x4x4x64x256 S1x4x4x64x256 hs.1 ![(n.val : Int), 0, 0, 0, 0] 0 = n.val :=
    Host.clampedStart_of_le _ _ _ _ rfl n.isLt
  have c1 : Host.clampedStart S64x4x4x64x256 S1x4x4x64x256 hs.1 ![(n.val : Int), 0, 0, 0, 0] 1 = 0 :=
    Host.clampedStart_of_le _ _ _ _ rfl (Nat.le_refl _)
  have c2 : Host.clampedStart S64x4x4x64x256 S1x4x4x64x256 hs.1 ![(n.val : Int), 0, 0, 0, 0] 2 = 0 :=
    Host.clampedStart_of_le _ _ _ _ rfl (Nat.le_refl _)
  have c3 : Host.clampedStart S64x4x4x64x256 S1x4x4x64x256 hs.1 ![(n.val : Int), 0, 0, 0, 0] 3 = 0 :=
    Host.clampedStart_of_le _ _ _ _ rfl (Nat.le_refl _)
  have c4 : Host.clampedStart S64x4x4x64x256 S1x4x4x64x256 hs.1 ![(n.val : Int), 0, 0, 0, 0] 4 = 0 :=
    Host.clampedStart_of_le _ _ _ _ rfl (Nat.le_refl _)
  rw [Host.dynamicUpdateSlice_apply]
  pointwise
  simp only [c0, c1, c2, c3, c4]
  by_cases hn : n' = n
  · subst hn
    simp
  · have h' : n'.val ≠ n.val := fun e => hn (Fin.ext e)
    rw [dif_neg (fun q => h' (by omega)), if_neg hn]

theorem step6 (hc : X (Proc.devRef .tc main_v52_5) = fun _ => BitVec.ofNat 32 n.val) (b h : Fin 4) (d : Fin 128) (e : Fin 256) :
    (step_main_v52_6 X : FVec Ideal S4x4x128x256 .f32) (ix4 b h d e)
      = @HAdd.hAdd EReal EReal EReal _ (@HMul.hMul EReal EReal EReal _ ((X (Proc.devRef .tc main_v52_4) : FVec Ideal S64x4x4x128 .f32) (ix4 n b h d)) ((X (Proc.devRef .tc main_v52_6) : FVec Ideal S4x4x128x256 .f32) (ix4 b h d e)))
        (∑ j : Fin 64, @HMul.hMul EReal EReal EReal _ ((X (Proc.devRef .tc main_v52_2) : FVec Ideal S64x4x4x64x128 .f32) (ix5 n b h j d)) ((X (Proc.devRef .tc main_v52_3) : FVec Ideal S64x4x4x64x256 .f32) (ix5 n b h j e))) := by
  unfold step_main_v52_6
  simp only [id_eq]
  rw [slice_decay n, slice_128 n, slice_256 n]
  · pointwise
  · exact start_at X n hc
  · exact start_at X n hc
  · exact start4_at X n hc

theorem step7 (hc : X (Proc.devRef .tc main_v52_5) = fun _ => BitVec.ofNat 32 n.val) (n' : Fin 64) (b h : Fin 4) (i : Fin 64) (e : Fin 256) :
    (step_main_v52_7 X : FVec Ideal S64x4x4x64x256 .f32) (ix5 n' b h i e)
      = if n' = n then @HAdd.hAdd EReal EReal EReal _ ((X (Proc.devRef .tc main_v52_0) : FVec Ideal S64x4x4x64x256 .f32) (ix5 n b h i e))
        (∑ d : Fin 128, @HMul.hMul EReal EReal EReal _ ((X (Proc.devRef .tc main_v52_1) : FVec Ideal S64x4x4x64x128 .f32) (ix5 n b h i d)) ((X (Proc.devRef .tc main_v52_6) : FVec Ideal S4x4x128x256 .f32) (ix4 b h d e)))
        else (X (Proc.devRef .tc main_v52_7) : FVec Ideal S64x4x4x64x256 .f32) (ix5 n' b h i e) := by
  unfold step_main_v52_7
  simp only [id_eq]
  rw [update_apply n, slice_128 n, slice_256 n]
  · refine if_congr Iff.rfl ?_ rfl
    pointwise
  · exact start_at X n hc
  · exact start_at X n hc
  · exact start_at X n hc

theorem step5 (hc : X (Proc.devRef .tc main_v52_5) = fun _ => BitVec.ofNat 32 n.val) :
    step_main_v52_5 X = fun _ => BitVec.ofNat 32 (n.val + 1) := by
  unfold step_main_v52_5
  rw [hc]
  funext y
  exact WordCmp.addi_ofNat _ _

/-! ## The trips together -/

/-- What the loop reads, as the contents hold it. -/
structure Ready (x : Fin 4 → Fin 4 → Fin 64 → Chunk) (V0 : Valuation τ sig (Elt Ideal)) : Prop where
  intra : ∀ n b h i e, (V0 (Proc.devRef .tc main_v52_0) : FVec Ideal S64x4x4x64x256 .f32) (ix5 n b h i e) = (x b h n).intra i e
  inter : ∀ n b h i d, (V0 (Proc.devRef .tc main_v52_1) : FVec Ideal S64x4x4x64x128 .f32) (ix5 n b h i d) = (x b h n).q i d * sc * Ideal.exp ((x b h n).dec i d)
  key : ∀ n b h i d, (V0 (Proc.devRef .tc main_v52_2) : FVec Ideal S64x4x4x64x128 .f32) (ix5 n b h i d) = (x b h n).k i d * Ideal.exp ((x b h n).dec 63 d - (x b h n).dec i d)
  value : ∀ n b h i e, (V0 (Proc.devRef .tc main_v52_3) : FVec Ideal S64x4x4x64x256 .f32) (ix5 n b h i e) = (x b h n).v i e
  decay : ∀ n b h d, (V0 (Proc.devRef .tc main_v52_4) : FVec Ideal S64x4x4x128 .f32) (ix4 n b h d) = Ideal.exp ((x b h n).dec 63 d)

/-- What the loop has written after `k` trips. -/
structure Done (x : Fin 4 → Fin 4 → Fin 64 → Chunk) (k : ℕ) (V0 : Valuation τ sig (Elt Ideal)) : Prop extends Ready x V0 where
  counter : V0 (Proc.devRef .tc main_v52_5) = fun _ => BitVec.ofNat 32 k
  carry : ∀ b h d e, (V0 (Proc.devRef .tc main_v52_6) : FVec Ideal S4x4x128x256 .f32) (ix4 b h d e) = state (x b h) k d e
  rows : ∀ n b h i e, n.val < k → (V0 (Proc.devRef .tc main_v52_7) : FVec Ideal S64x4x4x64x256 .f32) (ix5 n b h i e) = (x b h n).out (state (x b h) n.val) i e

variable {X} {x : Fin 4 → Fin 4 → Fin 64 → Chunk}

theorem Done.step {k : ℕ} (hk : k < 64) (H : Done x k X) : Done x (k + 1) (STEP X) where
  intra n b h i e := by rw [STEP_main_v52_0]; exact H.intra n b h i e
  inter n b h i d := by rw [STEP_main_v52_1]; exact H.inter n b h i d
  key n b h i d := by rw [STEP_main_v52_2]; exact H.key n b h i d
  value n b h i e := by rw [STEP_main_v52_3]; exact H.value n b h i e
  decay n b h d := by rw [STEP_main_v52_4]; exact H.decay n b h d
  counter := by rw [STEP_main_v52_5]; exact step5 X ⟨k, hk⟩ H.counter
  carry b h d e := by
    rw [STEP_main_v52_6, step6 X ⟨k, hk⟩ H.counter, H.carry, H.decay]
    simp only [H.key, H.value]
    exact (congrFun (congrFun (state_succ (x b h) ⟨k, hk⟩) d) e).symm
  rows n b h i e hn := by
    rw [STEP_main_v52_7, step7 X ⟨k, hk⟩ H.counter]
    by_cases e' : n = ⟨k, hk⟩
    · subst e'
      rw [if_pos rfl, H.intra]
      simp only [H.inter, H.carry]
      rfl
    · rw [if_neg e']
      exact H.rows n b h i e (by
        have : n.val ≠ k := fun q => e' (Fin.ext q)
        omega)

theorem Done.iterate (H : Done x 0 X) : ∀ k, k ≤ 64 → Done x k (STEP^[k] X)
  | 0, _ => H
  | k + 1, hk => by
    rw [Function.iterate_succ_apply']
    exact Done.step hk (Done.iterate H k (Nat.le_of_lt hk))

end Cert.Proof.GlaReference

end
-- ==== Proof.Gla.Reference.lean ====
/- The reference's result, over its arrays. -/
module

public import proofs.«01_k».proof.Proof.Gla.Slices
public import proofs.«01_k».proof.Proof.Gla.Stages
public import proofs.«01_k».proof.Proof.Gla.Loop

@[expose] public section

set_option maxRecDepth 16384

noncomputable section

open Idealize.ShloMosaic Idealize.ShloMosaic.TcCoe Idealize.SL.Sem
open Idealize.ShloMosaic.StableHlo

namespace Cert.Proof.GlaReference

open Cert.ReferenceIdeal Cert.ReferenceIdeal.Gen Cert.ReferenceIdeal.Value Cert.Proof.Gla

variable (m : (ℓ : Loc nD τ sig) → Buf (Elt Ideal) ℓ)

theorem holds_base (c : Dev nD) (n : Fin 64) (b h : Fin 4) : Holds (base m c) ((at0 m c).chunk b h n) n b h :=
  ⟨q_base m c n b h, k_base m c n b h, v_base m c n b h, dec_base m c n b h⟩

/-- The loop starts with no state and no row written. -/
theorem done_zero (c : Dev nD) : Done (at0 m c).chunk 0 (entryContents preI m c) where
  intra n b h i e := intra_entered (holds_base m c n b h) i e
  inter n b h i d := inter_entered (holds_base m c n b h) i d
  key n b h i d := key_entered (holds_base m c n b h) i d
  value n b h i e := value_entered (holds_base m c n b h) i e
  decay n b h d := decay_entered (holds_base m c n b h) d
  counter := ctr_entry m c
  carry b h d e := v52_6_read _ b h d e
  rows n b h i e hn := absurd hn (Nat.not_lt_zero _)

theorem done_all (c : Dev nD) : Done (at0 m c).chunk 64 (STEP^[64] (entryContents preI m c)) :=
  (done_zero m c).iterate 64 (Nat.le_refl _)

/-- A result entry, from the rows the loop wrote, the norm's weight and the projection. -/
theorem out_apply (X : Valuation τ sig (Elt Ideal)) (b : Fin 4) (n : Fin 64) (i : Fin 64) (h : Fin 4) (e : Fin 256) :
    (out_main_v73 X : FVec Ideal S16384x1024 .bf16) (ix2 (Arrays.row b n i) (⟨h.val * 256 + e.val, by omega⟩ : Fin 1024))
      = gated (fun e => (X (Proc.devRef .tc main_v52_7) : FVec Ideal S64x4x4x64x256 .f32) (ix5 n b h i e))
        (fun e => (X (Proc.devRef .tc main_arg4) : FVec Ideal S256 .f32) (ix1 e))
        (fun e => (X (Proc.devRef .tc main_arg0) : FVec Ideal S16384x5120 .f32) (ix2 (Arrays.row b n i) ⟨4096 + (h.val * 256 + e.val), by omega⟩)) e := by
  unfold out_main_v73
  pointwise [gated]
  have hb : (b.val * 4096 + n.val * 64 + i.val) / 4096 = b.val := by omega
  have hm : (b.val * 4096 + n.val * 64 + i.val) % 4096 = n.val * 64 + i.val := by omega
  simp only [hb, hm, Fin.eta, ← Nat.add_assoc]
  rfl

/-- The reference leaves the result. -/
theorem out_eq (c : Dev nD) : (out_main_v73 (STEP^[64] (entryContents preI m c)) : FVec Ideal S16384x1024 .bf16) = resultArray (at0 m c) := by
  funext y
  obtain ⟨r, q, rfl⟩ : ∃ r q, y = ix2 r q := ⟨_, _, (ix2_eta y).symm⟩
  have hr : r = Arrays.row ⟨r.val / 4096, by omega⟩ ⟨r.val % 4096 / 64, by omega⟩ ⟨r.val % 64, Nat.mod_lt _ (by decide)⟩ :=
    Fin.ext (by show r.val = r.val / 4096 * 4096 + r.val % 4096 / 64 * 64 + r.val % 64; omega)
  have hq : q = ⟨q.val / 256 * 256 + q.val % 256, by omega⟩ := Fin.ext (by show q.val = q.val / 256 * 256 + q.val % 256; omega)
  have H := out_apply (STEP^[64] (entryContents preI m c)) ⟨r.val / 4096, by omega⟩ ⟨r.val % 4096 / 64, by omega⟩
    ⟨r.val % 64, Nat.mod_lt _ (by decide)⟩ ⟨q.val / 256, by omega⟩ ⟨q.val % 256, Nat.mod_lt _ (by decide)⟩
  refine Eq.trans (congrArg _ (congrArg₂ ix2 hr hq)) (H.trans ?_)
  rw [iter_main_arg4, iter_main_arg0]
  simp only [(done_all m c).rows _ _ _ _ _ (Fin.isLt _)]
  rfl

end Cert.Proof.GlaReference

end
-- ==== Proof.Claims.lean ====
module

public import proofs.«01_k».proof.Defs
public import proofs.«01_k».proof.Proof.In.Value
public import proofs.«01_k».proof.Proof.OddIn.Value
public import proofs.«01_k».proof.Proof.Proj.Odd
public import proofs.«01_k».proof.Proof.Proj.Value
public import proofs.«01_k».proof.Proof.Ffn.Mid
public import proofs.«01_k».proof.Proof.Ffn.Last
public import proofs.«01_k».proof.Proof.Sgu.Kernel
public import proofs.«01_k».proof.Proof.Sgu.Reference
public import proofs.«01_k».proof.Proof.Gla.Kernel
public import proofs.«01_k».proof.Proof.Gla.Reference

@[expose] public section

noncomputable section

open Idealize.ShloMosaic Idealize.ShloMosaic.TcCoe Idealize.SL.Sem

/-!
The equations of the programs' results, each pair from its value module.
-/

namespace Cert.Proof

theorem algebraic_proj : Cert.algebraic_ProjKernelIdeal_ProjReferenceIdeal := by
  pair_intro
  · run_from Cert.ProjKernelIdeal.Value.run_blocks m g
  · run_from Cert.ProjReferenceIdeal.Value.run m' g'
    obtain ⟨h0, h1, h2, h3⟩ := hagree c
    show ProjValue.REF _ (m' ((c : Thread Cert.ProjReferenceIdeal.nD Cert.ProjReferenceIdeal.τ).loc Cert.ProjReferenceIdeal.main_arg1))
      (m' ((c : Thread Cert.ProjReferenceIdeal.nD Cert.ProjReferenceIdeal.τ).loc Cert.ProjReferenceIdeal.main_arg2)) _ = _
    rw [h1, h2]
    exact (ProjValue.final m c).symm

theorem algebraic_ffn : Cert.algebraic_FfnKernelIdeal_FfnReferenceIdeal := by
  pair_intro
  · run_from Cert.FfnKernelIdeal.Value.run_blocks m g
  · run_from Cert.FfnReferenceIdeal.Value.run m' g'
    obtain ⟨h0, h1, h2, h3, h4⟩ := hagree c
    refine Eq.trans ?_ (FfnValue.final m c).symm
    rw [← FfnValue.host_eq]
    unfold Cert.FfnReferenceIdeal.Value.res_main_v30
    rw [h0, h1, h2, h3, h4]
    rfl

theorem algebraic_ffn_mid : Cert.algebraic_FfnMidKernelIdeal_FfnMidReferenceIdeal := by
  pair_intro
  · run_from Cert.FfnMidKernelIdeal.Value.run_blocks m g
  · run_from Cert.FfnMidReferenceIdeal.Value.run m' g'
    refine Eq.trans ?_ (FfnMidValue.final m c).symm
    rw [← FfnMidValue.host_eq]
    rfl

theorem algebraic_gla : Cert.algebraic_KernelIdeal_ReferenceIdeal := by
  pair_intro
  · run_from Cert.KernelIdeal.Value.run_blocks m g
  · refine Idealize.ShloMosaic.θ_run_mono (Cert.ReferenceIdeal.Value.run m' g') ?_
    intro r hr c
    obtain ⟨h0, h1, h2, h3, h4⟩ := hagree c
    refine ⟨(hr c).1.trans ((GlaReference.out_eq m' c).trans (Eq.trans (congrArg Gla.resultArray ?_) (Gla.final m c).symm)), (hr c).2⟩
    show Gla.arrays _ _ _ _ _ = Gla.arrays _ _ _ _ _
    rw [h0, h1, h2, h3, h4]

theorem algebraic_sgu : Cert.algebraic_SguKernelIdeal_SguReferenceIdeal := by
  pair_intro
  · run_from Cert.SguKernelIdeal.Value.run_blocks m g
  · refine Idealize.ShloMosaic.θ_run_mono (Cert.SguReferenceIdeal.Value.run m' g') ?_
    intro r hr c
    obtain ⟨h0, h1, h2, h3⟩ := hagree c
    refine ⟨(hr c).1.trans ((SguReference.out_eq m' c).trans (Eq.trans (congrArg Sgu.resultArray ?_) (Sgu.final m c).symm)), (hr c).2⟩
    show Sgu.arrays _ _ _ _ = Sgu.arrays _ _ _ _
    rw [h0, h1, h2, h3]

/-- The normalised in-projection: both of its results. -/
theorem algebraic_in : Cert.algebraic_InKernelIdeal_InReferenceIdeal := by
  pair_intro
  · run_from InValue.run_blocks m g
  · refine Idealize.ShloMosaic.θ_run_mono (Cert.InReferenceIdeal.Value.run m' g') ?_
    intro r hr c
    obtain ⟨h0, h1, h2⟩ := hagree c
    refine ⟨(hr c).1.trans ((InValue.host_main _ _ _).trans (Eq.trans ?_ (InValue.final_main m c).symm)),
      (hr c).2.1.trans ((InValue.host_extra _ _ _).trans (Eq.trans ?_ (InValue.final_extra m c).symm)), (hr c).2.2⟩
    · rw [h0, h1, h2]
    · rw [h0, h1, h2]

/-- The odd layers' normalised in-projection: both of its results. -/
theorem algebraic_odd_in : Cert.algebraic_OddInKernelIdeal_OddInReferenceIdeal := by
  pair_intro
  · run_from OddInValue.run_blocks m g
  · refine Idealize.ShloMosaic.θ_run_mono (Cert.OddInReferenceIdeal.Value.run m' g') ?_
    intro r hr c
    obtain ⟨h0, h1, h2⟩ := hagree c
    refine ⟨(hr c).1.trans ((OddInValue.host_main _ _ _).trans (Eq.trans ?_ (OddInValue.final_main m c).symm)),
      (hr c).2.1.trans ((OddInValue.host_extra _ _ _).trans (Eq.trans ?_ (OddInValue.final_extra m c).symm)), (hr c).2.2⟩
    · rw [h0, h1, h2]
    · rw [h0, h1, h2]

/-- The odd layers' output projection with its residual. -/
theorem algebraic_odd_proj : Cert.algebraic_OddProjKernelIdeal_OddProjReferenceIdeal := by
  pair_intro
  · run_from Cert.OddProjKernelIdeal.Value.run_blocks m g
  · refine Idealize.ShloMosaic.θ_run_mono (Cert.OddProjReferenceIdeal.Value.run m' g') ?_
    intro r hr c
    obtain ⟨h0, h1, h2⟩ := hagree c
    refine ⟨(hr c).1.trans (Eq.trans ?_ (OddProjValue.final m c).symm), (hr c).2⟩
    rw [h0, h1, h2]

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.FfnKernel.Frame
public import proofs.«01_k».proof.Proof.Gen.FfnKernelIdeal.Value
public import proofs.«01_k».proof.Proof.Gen.FfnReferenceIdeal.Run
public import proofs.«01_k».proof.Proof.Gen.FfnMidKernel.Frame
public import proofs.«01_k».proof.Proof.Gen.FfnMidKernelIdeal.Value
public import proofs.«01_k».proof.Proof.Gen.FfnMidReferenceIdeal.Run
public import proofs.«01_k».proof.Proof.Gen.SguKernel.Frame
public import proofs.«01_k».proof.Proof.Gen.SguKernelIdeal.Value
public import proofs.«01_k».proof.Proof.Gen.SguReferenceIdeal.Run
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.In.Frame
public import proofs.«01_k».proof.Proof.In.FrameIdeal
public import proofs.«01_k».proof.Proof.Gen.InReferenceIdeal.Run
public import proofs.«01_k».proof.Proof.Gen.OddProjKernel.Frame
public import proofs.«01_k».proof.Proof.Gen.OddProjKernelIdeal.Value
public import proofs.«01_k».proof.Proof.Gen.OddProjReferenceIdeal.Run
public import proofs.«01_k».proof.Proof.OddIn.Frame
public import proofs.«01_k».proof.Proof.OddIn.FrameIdeal
public import proofs.«01_k».proof.Proof.Gen.OddInReferenceIdeal.Run
public import proofs.«01_k».proof.Proof.Claims

@[expose] public section

noncomputable section

open Idealize.ShloMosaic Idealize.ShloMosaic.TcCoe Idealize.SL.Sem

namespace Cert.Proof

theorem frame_gla : Cert.quiescent_Kernel := fun m ρ _ => Cert.Kernel.Gen.frame m ρ

theorem frame_gla_ideal : Cert.quiescent_KernelIdeal := fun m ρ _ => Cert.KernelIdeal.Gen.frame m ρ

theorem frame_gla_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves_gla : Cert.preserves_Kernel_KernelIdeal := trivial

theorem frame_ffn : Cert.quiescent_FfnKernel := fun m ρ _ => Cert.FfnKernel.Gen.frame m ρ

theorem frame_ffn_ideal : Cert.quiescent_FfnKernelIdeal := fun m ρ _ => Cert.FfnKernelIdeal.Gen.frame m ρ

theorem frame_ffn_reference : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

theorem preserves_ffn : Cert.preserves_FfnKernel_FfnKernelIdeal := trivial

theorem frame_ffn_mid : Cert.quiescent_FfnMidKernel := fun m ρ _ => Cert.FfnMidKernel.Gen.frame m ρ

theorem frame_ffn_mid_ideal : Cert.quiescent_FfnMidKernelIdeal := fun m ρ _ => Cert.FfnMidKernelIdeal.Gen.frame m ρ

theorem frame_ffn_mid_reference : Cert.quiescent_FfnMidReferenceIdeal := fun m ρ _ =>
  (θ_run Cert.FfnMidReferenceIdeal.defs _ _).mono
    (fun r h => ⟨fun c => (h c).2, Idealize.ShloMosaic.sem_eq_zero_of_no_sems (by decide) r.2⟩)
    (Cert.FfnMidReferenceIdeal.Value.run (F := Ideal) m ρ)

theorem preserves_ffn_mid : Cert.preserves_FfnMidKernel_FfnMidKernelIdeal := trivial

theorem frame_sgu : Cert.quiescent_SguKernel := fun m ρ _ => Cert.SguKernel.Gen.frame m ρ

theorem frame_sgu_ideal : Cert.quiescent_SguKernelIdeal := fun m ρ _ => Cert.SguKernelIdeal.Gen.frame m ρ

theorem frame_sgu_reference : Cert.quiescent_SguReferenceIdeal := fun m ρ _ =>
  (θ_run Cert.SguReferenceIdeal.defs _ _).mono
    (fun r h => ⟨fun c => (h c).2, Idealize.ShloMosaic.sem_eq_zero_of_no_sems (by decide) r.2⟩)
    (Cert.SguReferenceIdeal.Value.run (F := Ideal) m ρ)

theorem preserves_sgu : Cert.preserves_SguKernel_SguKernelIdeal := trivial

theorem frame_proj : Cert.quiescent_ProjKernel := fun m ρ _ => Cert.ProjKernel.Gen.frame m ρ

theorem frame_proj_ideal : Cert.quiescent_ProjKernelIdeal := fun m ρ _ => Cert.ProjKernelIdeal.Gen.frame m ρ

theorem frame_proj_reference : Cert.quiescent_ProjReferenceIdeal := fun m ρ _ =>
  (θ_run Cert.ProjReferenceIdeal.defs _ _).mono
    (fun r h => ⟨fun c => (h c).2, Idealize.ShloMosaic.sem_eq_zero_of_no_sems (by decide) r.2⟩)
    (Cert.ProjReferenceIdeal.Value.run (F := Ideal) m ρ)

theorem preserves_proj : Cert.preserves_ProjKernel_ProjKernelIdeal := trivial

theorem frame_in : Cert.quiescent_InKernel := fun m ρ _ => Cert.InKernel.Gen.frame m ρ

theorem frame_in_ideal : Cert.quiescent_InKernelIdeal := fun m ρ _ => Cert.InKernelIdeal.Gen.frame m ρ

theorem frame_in_reference : Cert.quiescent_InReferenceIdeal := fun m ρ _ =>
  (θ_run Cert.InReferenceIdeal.defs _ _).mono
    (fun r h => ⟨fun c => (h c).2.2, Idealize.ShloMosaic.sem_eq_zero_of_no_sems (by decide) r.2⟩)
    (Cert.InReferenceIdeal.Value.run (F := Ideal) m ρ)

theorem preserves_in : Cert.preserves_InKernel_InKernelIdeal := trivial

theorem frame_odd_proj : Cert.quiescent_OddProjKernel := fun m ρ _ => Cert.OddProjKernel.Gen.frame m ρ

theorem frame_odd_proj_ideal : Cert.quiescent_OddProjKernelIdeal := fun m ρ _ => Cert.OddProjKernelIdeal.Gen.frame m ρ

theorem frame_odd_proj_reference : Cert.quiescent_OddProjReferenceIdeal := fun m ρ _ =>
  (θ_run Cert.OddProjReferenceIdeal.defs _ _).mono
    (fun r h => ⟨fun c => (h c).2, Idealize.ShloMosaic.sem_eq_zero_of_no_sems (by decide) r.2⟩)
    (Cert.OddProjReferenceIdeal.Value.run (F := Ideal) m ρ)

theorem preserves_odd_proj : Cert.preserves_OddProjKernel_OddProjKernelIdeal := trivial

theorem frame_odd_in : Cert.quiescent_OddInKernel := fun m ρ _ => Cert.OddInKernel.Gen.frame m ρ

theorem frame_odd_in_ideal : Cert.quiescent_OddInKernelIdeal := fun m ρ _ => Cert.OddInKernelIdeal.Gen.frame m ρ

theorem frame_odd_in_reference : Cert.quiescent_OddInReferenceIdeal := fun m ρ _ =>
  (θ_run Cert.OddInReferenceIdeal.defs _ _).mono
    (fun r h => ⟨fun c => (h c).2.2, Idealize.ShloMosaic.sem_eq_zero_of_no_sems (by decide) r.2⟩)
    (Cert.OddInReferenceIdeal.Value.run (F := Ideal) m ρ)

theorem preserves_odd_in : Cert.preserves_OddInKernel_OddInKernelIdeal := trivial

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.FfnMidKernel.Gen.facts, Cert.FfnMidKernelIdeal.Gen.facts, Cert.FfnMidReferenceIdeal.Gen.facts,
    Cert.SguKernel.Gen.facts, Cert.SguKernelIdeal.Gen.facts, Cert.SguReferenceIdeal.Gen.facts,
    Cert.ProjKernel.Gen.facts, Cert.ProjKernelIdeal.Gen.facts, Cert.ProjReferenceIdeal.Gen.facts,
    Cert.InKernel.Gen.facts, Cert.InKernelIdeal.Gen.facts, Cert.InReferenceIdeal.Gen.facts,
    Cert.OddProjKernel.Gen.facts, Cert.OddProjKernelIdeal.Gen.facts, Cert.OddProjReferenceIdeal.Gen.facts,
    Cert.OddInKernel.Gen.facts, Cert.OddInKernelIdeal.Gen.facts, Cert.OddInReferenceIdeal.Gen.facts,
    frame_gla, frame_gla_ideal, frame_gla_reference, frame_ffn, frame_ffn_ideal, frame_ffn_reference,
    frame_ffn_mid, frame_ffn_mid_ideal, frame_ffn_mid_reference, frame_sgu, frame_sgu_ideal,
    frame_sgu_reference, frame_proj, frame_proj_ideal, frame_proj_reference, frame_in, frame_in_ideal,
    frame_in_reference, frame_odd_proj, frame_odd_proj_ideal, frame_odd_proj_reference, frame_odd_in,
    frame_odd_in_ideal, frame_odd_in_reference, preserves_gla, algebraic_gla, preserves_ffn, algebraic_ffn,
    preserves_ffn_mid, algebraic_ffn_mid, preserves_sgu, algebraic_sgu, preserves_proj, algebraic_proj,
    preserves_in, algebraic_in, preserves_odd_proj, algebraic_odd_proj, preserves_odd_in, algebraic_odd_in⟩

end Cert.Proof

end
